-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v216)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v216) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x14x32x32 : Shape := ⟨4, ![4, 14, 32, 32]⟩
abbrev S4x3 : Shape := ⟨2, ![4, 3]⟩
abbrev S7x2 : Shape := ⟨2, ![7, 2]⟩
abbrev S1x7x2 : Shape := ⟨3, ![1, 7, 2]⟩
abbrev S4x7x32x32 : Shape := ⟨4, ![4, 7, 32, 32]⟩
abbrev S4x32x32x7 : Shape := ⟨4, ![4, 32, 32, 7]⟩
abbrev S4x7168 : Shape := ⟨2, ![4, 7168]⟩
abbrev S4x32x32x14 : Shape := ⟨4, ![4, 32, 32, 14]⟩
abbrev S4x7168x2 : Shape := ⟨3, ![4, 7168, 2]⟩
abbrev S32 : Shape := ⟨1, ![32]⟩
abbrev S_ : Shape := ⟨0, ![]⟩
abbrev S32x32 : Shape := ⟨2, ![32, 32]⟩
abbrev S1024 : Shape := ⟨1, ![1024]⟩
abbrev S1024x1x1 : Shape := ⟨3, ![1024, 1, 1]⟩
abbrev S1024x7x2 : Shape := ⟨3, ![1024, 7, 2]⟩
abbrev S1x7168x2 : Shape := ⟨3, ![1, 7168, 2]⟩
abbrev S4x7168x1 : Shape := ⟨3, ![4, 7168, 1]⟩
abbrev S4x2000 : Shape := ⟨2, ![4, 2000]⟩
abbrev S4x2000x1 : Shape := ⟨3, ![4, 2000, 1]⟩
abbrev S1 : Shape := ⟨1, ![1]⟩
abbrev S1x1x1 : Shape := ⟨3, ![1, 1, 1]⟩
abbrev S4x2000x2 : Shape := ⟨3, ![4, 2000, 2]⟩
abbrev S4x1024x7 : Shape := ⟨3, ![4, 1024, 7]⟩
abbrev S4x1024x7x2 : Shape := ⟨4, ![4, 1024, 7, 2]⟩
abbrev S4x1024x3 : Shape := ⟨3, ![4, 1024, 3]⟩
abbrev S4x1024x3x1 : Shape := ⟨4, ![4, 1024, 3, 1]⟩
abbrev S1x1x1x1 : Shape := ⟨4, ![1, 1, 1, 1]⟩
abbrev S4x1024x3x2 : Shape := ⟨4, ![4, 1024, 3, 2]⟩
abbrev S4x2000x3 : Shape := ⟨3, ![4, 2000, 3]⟩
abbrev S4x2000x3x1 : Shape := ⟨4, ![4, 2000, 3, 1]⟩
abbrev S4x2000x1x1 : Shape := ⟨4, ![4, 2000, 1, 1]⟩
abbrev S4x2000x3x2 : Shape := ⟨4, ![4, 2000, 3, 2]⟩
abbrev S4x2000x3x2x1 : Shape := ⟨5, ![4, 2000, 3, 2, 1]⟩
abbrev S1x1x1x1x1 : Shape := ⟨5, ![1, 1, 1, 1, 1]⟩
abbrev S4x2000x1x2 : Shape := ⟨4, ![4, 2000, 1, 2]⟩
abbrev S4x2000x3x4 : Shape := ⟨4, ![4, 2000, 3, 4]⟩
abbrev S4x6000x4 : Shape := ⟨3, ![4, 6000, 4]⟩
abbrev S4x6000 : Shape := ⟨2, ![4, 6000]⟩
abbrev S4x12000x4 : Shape := ⟨3, ![4, 12000, 4]⟩
abbrev S4x12000 : Shape := ⟨2, ![4, 12000]⟩
abbrev S4x1 : Shape := ⟨2, ![4, 1]⟩
abbrev S4 : Shape := ⟨1, ![4]⟩
abbrev S4x12000x1 : Shape := ⟨3, ![4, 12000, 1]⟩
abbrev S4x6000x1 : Shape := ⟨3, ![4, 6000, 1]⟩
abbrev S4x16x8 : Shape := ⟨3, ![4, 16, 8]⟩
abbrev S4x6000x8 : Shape := ⟨3, ![4, 6000, 8]⟩
abbrev S4x6016x8 : Shape := ⟨3, ![4, 6016, 8]⟩
abbrev S4x47x128x8 : Shape := ⟨4, ![4, 47, 128, 8]⟩
abbrev S4x8x6016 : Shape := ⟨3, ![4, 8, 6016]⟩
abbrev S4x8x47x128 : Shape := ⟨4, ![4, 8, 47, 128]⟩
abbrev S4x47x8x128 : Shape := ⟨4, ![4, 47, 8, 128]⟩
abbrev S4x304x8 : Shape := ⟨3, ![4, 304, 8]⟩
abbrev S1x47x8x128 : Shape := ⟨4, ![1, 47, 8, 128]⟩
abbrev S1x47x128x8 : Shape := ⟨4, ![1, 47, 128, 8]⟩
abbrev S1x304x8 : Shape := ⟨3, ![1, 304, 8]⟩
abbrev S48x128 : Shape := ⟨2, ![48, 128]⟩
abbrev S128x128 : Shape := ⟨2, ![128, 128]⟩
abbrev S1x128 : Shape := ⟨2, ![1, 128]⟩
abbrev S304x128 : Shape := ⟨2, ![304, 128]⟩
abbrev S1x1x8x128 : Shape := ⟨4, ![1, 1, 8, 128]⟩
abbrev S8x128 : Shape := ⟨2, ![8, 128]⟩
abbrev S1x1x128x8 : Shape := ⟨4, ![1, 1, 128, 8]⟩
abbrev S128x8 : Shape := ⟨2, ![128, 8]⟩
abbrev S128x1 : Shape := ⟨2, ![128, 1]⟩
abbrev S1x1 : Shape := ⟨2, ![1, 1]⟩
abbrev S304x8 : Shape := ⟨2, ![304, 8]⟩
abbrev S1x1x128 : Shape := ⟨3, ![1, 1, 128]⟩
abbrev S4x300x4 : Shape := ⟨3, ![4, 300, 4]⟩
abbrev S4x1x1 : Shape := ⟨3, ![4, 1, 1]⟩
abbrev S4x300x1 : Shape := ⟨3, ![4, 300, 1]⟩
abbrev S4x300x5 : Shape := ⟨3, ![4, 300, 5]⟩

abbrev nBuf : Space → Nat
  | .hbm => 511
  | .vmem => 8
  | .smem => 1
  | _ => 0

abbrev hbmTy0_0 (i : Nat) : BufTy := match i % 128 with
  | 0 => ⟨S4x14x32x32, .f32⟩
  | 1 => ⟨S4x14x32x32, .f32⟩
  | 2 => ⟨S4x14x32x32, .f32⟩
  | 3 => ⟨S4x14x32x32, .f32⟩
  | 4 => ⟨S4x3, .f32⟩
  | 5 => ⟨S7x2, .f32⟩
  | 6 => ⟨S1x7x2, .f32⟩
  | 7 => ⟨S7x2, .f32⟩
  | 8 => ⟨S1x7x2, .f32⟩
  | 9 => ⟨S4x7x32x32, .f32⟩
  | 10 => ⟨S4x32x32x7, .f32⟩
  | 11 => ⟨S4x7168, .f32⟩
  | 12 => ⟨S4x7x32x32, .f32⟩
  | 13 => ⟨S4x32x32x7, .f32⟩
  | 14 => ⟨S4x7168, .f32⟩
  | 15 => ⟨S4x32x32x14, .f32⟩
  | 16 => ⟨S4x7168x2, .f32⟩
  | 17 => ⟨S4x32x32x14, .f32⟩
  | 18 => ⟨S4x7168x2, .f32⟩
  | 19 => ⟨S32, .f32⟩
  | 20 => ⟨S_, .f32⟩
  | 21 => ⟨S32, .f32⟩
  | 22 => ⟨S32, .f32⟩
  | 23 => ⟨S32, .f32⟩
  | 24 => ⟨S_, .f32⟩
  | 25 => ⟨S32, .f32⟩
  | 26 => ⟨S32, .f32⟩
  | 27 => ⟨S32x32, .f32⟩
  | 28 => ⟨S32x32, .f32⟩
  | 29 => ⟨S1024, .f32⟩
  | 30 => ⟨S1024, .f32⟩
  | 31 => ⟨S1024x1x1, .f32⟩
  | 32 => ⟨S1024x7x2, .f32⟩
  | 33 => ⟨S1024x7x2, .f32⟩
  | 34 => ⟨S1024x7x2, .f32⟩
  | 35 => ⟨S1x7168x2, .f32⟩
  | 36 => ⟨S4x7168x2, .f32⟩
  | 37 => ⟨S1024x1x1, .f32⟩
  | 38 => ⟨S1024x7x2, .f32⟩
  | 39 => ⟨S1024x7x2, .f32⟩
  | 40 => ⟨S1024x7x2, .f32⟩
  | 41 => ⟨S1x7168x2, .f32⟩
  | 42 => ⟨S4x7168x2, .f32⟩
  | 43 => ⟨S4x7168x1, .f32⟩
  | 44 => ⟨S4x7168, .f32⟩
  | 45 => ⟨S4x7168x1, .f32⟩
  | 46 => ⟨S4x7168, .f32⟩
  | 47 => ⟨S4x7168, .f32⟩
  | 48 => ⟨S_, .f32⟩
  | 49 => ⟨S4x7168, .f32⟩
  | 50 => ⟨S4x7168, .f32⟩
  | 51 => ⟨S4x7168x1, .f32⟩
  | 52 => ⟨S4x7168, .f32⟩
  | 53 => ⟨S_, .f32⟩
  | 54 => ⟨S4x7168, .f32⟩
  | 55 => ⟨S4x7168, .f32⟩
  | 56 => ⟨S4x7168, .f32⟩
  | 57 => ⟨S4x7168x1, .f32⟩
  | 58 => ⟨S4x7168, .f32⟩
  | 59 => ⟨S4x7168x1, .f32⟩
  | 60 => ⟨S4x7168, .f32⟩
  | 61 => ⟨S_, .f32⟩
  | 62 => ⟨S_, .f32⟩
  | 63 => ⟨S_, .f32⟩
  | 64 => ⟨S4x7168, .f32⟩
  | 65 => ⟨S4x7168, .f32⟩
  | 66 => ⟨S_, .f32⟩
  | 67 => ⟨S4x7168, .f32⟩
  | 68 => ⟨S4x7168, .f32⟩
  | 69 => ⟨S4x7168, .f32⟩
  | 70 => ⟨S4x7168, .f32⟩
  | 71 => ⟨S4x7168, .f32⟩
  | 72 => ⟨S4x7168, .f32⟩
  | 73 => ⟨S_, .f32⟩
  | 74 => ⟨S4x7168, .f32⟩
  | 75 => ⟨S4x7168, .f32⟩
  | 76 => ⟨S_, .f32⟩
  | 77 => ⟨S4x7168, .f32⟩
  | 78 => ⟨S4x7168, .f32⟩
  | 79 => ⟨S4x7168, .f32⟩
  | 80 => ⟨S_, .f32⟩
  | 81 => ⟨S4x7168, .f32⟩
  | 82 => ⟨S4x7168, .f32⟩
  | 83 => ⟨S_, .f32⟩
  | 84 => ⟨S4x7168, .f32⟩
  | 85 => ⟨S4x7168, .f32⟩
  | 86 => ⟨S4x7168, .f32⟩
  | 87 => ⟨S4x7168x1, .f32⟩
  | 88 => ⟨S4x7168x1, .f32⟩
  | 89 => ⟨S4x7168x2, .f32⟩
  | 90 => ⟨S4x7168x1, .f32⟩
  | 91 => ⟨S4x7168, .f32⟩
  | 92 => ⟨S4x7168x1, .f32⟩
  | 93 => ⟨S4x7168, .f32⟩
  | 94 => ⟨S4x7168, .f32⟩
  | 95 => ⟨S_, .f32⟩
  | 96 => ⟨S4x7168, .f32⟩
  | 97 => ⟨S4x7168, .f32⟩
  | 98 => ⟨S4x7168x1, .f32⟩
  | 99 => ⟨S4x7168, .f32⟩
  | 100 => ⟨S_, .f32⟩
  | 101 => ⟨S4x7168, .f32⟩
  | 102 => ⟨S4x7168, .f32⟩
  | 103 => ⟨S4x7168, .f32⟩
  | 104 => ⟨S4x7168x1, .f32⟩
  | 105 => ⟨S4x7168, .f32⟩
  | 106 => ⟨S4x7168x1, .f32⟩
  | 107 => ⟨S4x7168, .f32⟩
  | 108 => ⟨S_, .f32⟩
  | 109 => ⟨S_, .f32⟩
  | 110 => ⟨S_, .f32⟩
  | 111 => ⟨S4x7168, .f32⟩
  | 112 => ⟨S4x7168, .f32⟩
  | 113 => ⟨S_, .f32⟩
  | 114 => ⟨S4x7168, .f32⟩
  | 115 => ⟨S4x7168, .f32⟩
  | 116 => ⟨S4x7168, .f32⟩
  | 117 => ⟨S4x7168, .f32⟩
  | 118 => ⟨S4x7168, .f32⟩
  | 119 => ⟨S4x7168, .f32⟩
  | 120 => ⟨S_, .f32⟩
  | 121 => ⟨S4x7168, .f32⟩
  | 122 => ⟨S4x7168, .f32⟩
  | 123 => ⟨S_, .f32⟩
  | 124 => ⟨S4x7168, .f32⟩
  | 125 => ⟨S4x7168, .f32⟩
  | 126 => ⟨S4x7168, .f32⟩
  | 127 => ⟨S_, .f32⟩
  | _ => ⟨S4x14x32x32, .f32⟩

abbrev hbmTy0_1 (i : Nat) : BufTy := match i % 128 with
  | 0 => ⟨S4x7168, .f32⟩
  | 1 => ⟨S4x7168, .f32⟩
  | 2 => ⟨S_, .f32⟩
  | 3 => ⟨S4x7168, .f32⟩
  | 4 => ⟨S4x7168, .f32⟩
  | 5 => ⟨S4x7168, .f32⟩
  | 6 => ⟨S4x7168x1, .f32⟩
  | 7 => ⟨S4x7168x1, .f32⟩
  | 8 => ⟨S4x7168x2, .f32⟩
  | 9 => ⟨S4x2000, .f32⟩
  | 10 => ⟨S4x2000, .i32⟩
  | 11 => ⟨S_, .i32⟩
  | 12 => ⟨S_, .i32⟩
  | 13 => ⟨S4x2000, .i32⟩
  | 14 => ⟨S4x2000, .i32⟩
  | 15 => ⟨S4x2000, .i32⟩
  | 16 => ⟨S_, .i32⟩
  | 17 => ⟨S4x2000, .i32⟩
  | 18 => ⟨S4x2000, .i1⟩
  | 19 => ⟨S4x2000, .i32⟩
  | 20 => ⟨S4x2000, .i32⟩
  | 21 => ⟨S_, .i32⟩
  | 22 => ⟨S4x2000, .i32⟩
  | 23 => ⟨S4x2000, .i1⟩
  | 24 => ⟨S4x2000, .i1⟩
  | 25 => ⟨S_, .i32⟩
  | 26 => ⟨S4x2000, .i32⟩
  | 27 => ⟨S4x2000, .i32⟩
  | 28 => ⟨S4x2000, .i32⟩
  | 29 => ⟨S4x2000x1, .i32⟩
  | 30 => ⟨S_, .i32⟩
  | 31 => ⟨S4x2000x1, .i32⟩
  | 32 => ⟨S4x2000x1, .i1⟩
  | 33 => ⟨S_, .i32⟩
  | 34 => ⟨S4x2000x1, .i32⟩
  | 35 => ⟨S4x2000x1, .i32⟩
  | 36 => ⟨S4x2000x1, .i32⟩
  | 37 => ⟨S1, .i32⟩
  | 38 => ⟨S_, .i32⟩
  | 39 => ⟨S4x2000x1, .i32⟩
  | 40 => ⟨S4x2000x1, .i1⟩
  | 41 => ⟨S1x1x1, .i32⟩
  | 42 => ⟨S4x2000x1, .i32⟩
  | 43 => ⟨S4x2000x1, .i1⟩
  | 44 => ⟨S4x2000x1, .i1⟩
  | 45 => ⟨S_, .i1⟩
  | 46 => ⟨S4x2000, .i1⟩
  | 47 => ⟨S4x2000x2, .f32⟩
  | 48 => ⟨S4x2000x2, .i1⟩
  | 49 => ⟨S_, .f32⟩
  | 50 => ⟨S4x2000x2, .f32⟩
  | 51 => ⟨S4x2000x2, .f32⟩
  | 52 => ⟨S4x1024x7, .f32⟩
  | 53 => ⟨S4x1024x7x2, .f32⟩
  | 54 => ⟨S4x1024x3, .f32⟩
  | 55 => ⟨S4x1024x3, .i32⟩
  | 56 => ⟨S4x1024x3x1, .i32⟩
  | 57 => ⟨S_, .i32⟩
  | 58 => ⟨S4x1024x3x1, .i32⟩
  | 59 => ⟨S4x1024x3x1, .i1⟩
  | 60 => ⟨S_, .i32⟩
  | 61 => ⟨S4x1024x3x1, .i32⟩
  | 62 => ⟨S4x1024x3x1, .i32⟩
  | 63 => ⟨S4x1024x3x1, .i32⟩
  | 64 => ⟨S1, .i32⟩
  | 65 => ⟨S_, .i32⟩
  | 66 => ⟨S4x1024x3x1, .i32⟩
  | 67 => ⟨S4x1024x3x1, .i1⟩
  | 68 => ⟨S1x1x1x1, .i32⟩
  | 69 => ⟨S4x1024x3x1, .i32⟩
  | 70 => ⟨S4x1024x3x1, .i1⟩
  | 71 => ⟨S4x1024x3x1, .i1⟩
  | 72 => ⟨S_, .i1⟩
  | 73 => ⟨S4x1024x3, .i1⟩
  | 74 => ⟨S4x1024x3x2, .f32⟩
  | 75 => ⟨S4x1024x3x2, .i1⟩
  | 76 => ⟨S_, .f32⟩
  | 77 => ⟨S4x1024x3x2, .f32⟩
  | 78 => ⟨S4x1024x3x2, .f32⟩
  | 79 => ⟨S4x2000x1, .i32⟩
  | 80 => ⟨S4x2000x3, .i32⟩
  | 81 => ⟨S_, .i32⟩
  | 82 => ⟨S4x2000x3, .i32⟩
  | 83 => ⟨S4x2000x3, .i1⟩
  | 84 => ⟨S_, .i32⟩
  | 85 => ⟨S4x2000x3, .i32⟩
  | 86 => ⟨S4x2000x3, .i32⟩
  | 87 => ⟨S4x2000x3, .i32⟩
  | 88 => ⟨S4x2000x3x1, .i32⟩
  | 89 => ⟨S1, .i32⟩
  | 90 => ⟨S_, .i32⟩
  | 91 => ⟨S4x2000x3x1, .i32⟩
  | 92 => ⟨S4x2000x3x1, .i1⟩
  | 93 => ⟨S1x1x1x1, .i32⟩
  | 94 => ⟨S4x2000x3x1, .i32⟩
  | 95 => ⟨S4x2000x3x1, .i1⟩
  | 96 => ⟨S4x2000x3x1, .i1⟩
  | 97 => ⟨S_, .i1⟩
  | 98 => ⟨S4x2000x3, .i1⟩
  | 99 => ⟨S4x2000x3, .f32⟩
  | 100 => ⟨S_, .f32⟩
  | 101 => ⟨S4x2000x3, .f32⟩
  | 102 => ⟨S4x2000x3, .f32⟩
  | 103 => ⟨S4x2000x1x1, .i32⟩
  | 104 => ⟨S4x2000x3x2, .i32⟩
  | 105 => ⟨S_, .i32⟩
  | 106 => ⟨S4x2000x3x2, .i32⟩
  | 107 => ⟨S4x2000x3x2, .i1⟩
  | 108 => ⟨S_, .i32⟩
  | 109 => ⟨S4x2000x3x2, .i32⟩
  | 110 => ⟨S4x2000x3x2, .i32⟩
  | 111 => ⟨S4x2000x3x2, .i32⟩
  | 112 => ⟨S4x2000x3x2x1, .i32⟩
  | 113 => ⟨S1, .i32⟩
  | 114 => ⟨S_, .i32⟩
  | 115 => ⟨S4x2000x3x2x1, .i32⟩
  | 116 => ⟨S4x2000x3x2x1, .i1⟩
  | 117 => ⟨S1x1x1x1x1, .i32⟩
  | 118 => ⟨S4x2000x3x2x1, .i32⟩
  | 119 => ⟨S4x2000x3x2x1, .i1⟩
  | 120 => ⟨S4x2000x3x2x1, .i1⟩
  | 121 => ⟨S_, .i1⟩
  | 122 => ⟨S4x2000x3x2, .i1⟩
  | 123 => ⟨S4x2000x3x2, .f32⟩
  | 124 => ⟨S_, .f32⟩
  | 125 => ⟨S4x2000x3x2, .f32⟩
  | 126 => ⟨S4x2000x3x2, .f32⟩
  | 127 => ⟨S4x2000x1x2, .f32⟩
  | _ => ⟨S4x14x32x32, .f32⟩

abbrev hbmTy0_2 (i : Nat) : BufTy := match i % 128 with
  | 0 => ⟨S4x2000x3x2, .f32⟩
  | 1 => ⟨S4x2000x3x1, .f32⟩
  | 2 => ⟨S4x2000x3, .f32⟩
  | 3 => ⟨S4x2000x3x1, .f32⟩
  | 4 => ⟨S4x2000x3, .f32⟩
  | 5 => ⟨S4x2000x3x1, .f32⟩
  | 6 => ⟨S4x2000x3, .f32⟩
  | 7 => ⟨S4x2000x3x1, .f32⟩
  | 8 => ⟨S4x2000x3, .f32⟩
  | 9 => ⟨S4x2000x3x1, .f32⟩
  | 10 => ⟨S4x2000x3x1, .f32⟩
  | 11 => ⟨S4x2000x3x1, .f32⟩
  | 12 => ⟨S4x2000x3x1, .f32⟩
  | 13 => ⟨S4x2000x3x4, .f32⟩
  | 14 => ⟨S4x2000x1, .f32⟩
  | 15 => ⟨S4x2000x3, .f32⟩
  | 16 => ⟨S4x2000x3, .f32⟩
  | 17 => ⟨S4x6000x4, .f32⟩
  | 18 => ⟨S4x6000, .f32⟩
  | 19 => ⟨S4x2000, .f32⟩
  | 20 => ⟨S4x2000, .i32⟩
  | 21 => ⟨S_, .i32⟩
  | 22 => ⟨S_, .i32⟩
  | 23 => ⟨S4x2000, .i32⟩
  | 24 => ⟨S4x2000, .i32⟩
  | 25 => ⟨S4x2000, .i32⟩
  | 26 => ⟨S_, .i32⟩
  | 27 => ⟨S4x2000, .i32⟩
  | 28 => ⟨S4x2000, .i1⟩
  | 29 => ⟨S4x2000, .i32⟩
  | 30 => ⟨S4x2000, .i32⟩
  | 31 => ⟨S_, .i32⟩
  | 32 => ⟨S4x2000, .i32⟩
  | 33 => ⟨S4x2000, .i1⟩
  | 34 => ⟨S4x2000, .i1⟩
  | 35 => ⟨S_, .i32⟩
  | 36 => ⟨S4x2000, .i32⟩
  | 37 => ⟨S4x2000, .i32⟩
  | 38 => ⟨S4x2000, .i32⟩
  | 39 => ⟨S4x2000x1, .i32⟩
  | 40 => ⟨S_, .i32⟩
  | 41 => ⟨S4x2000x1, .i32⟩
  | 42 => ⟨S4x2000x1, .i1⟩
  | 43 => ⟨S_, .i32⟩
  | 44 => ⟨S4x2000x1, .i32⟩
  | 45 => ⟨S4x2000x1, .i32⟩
  | 46 => ⟨S4x2000x1, .i32⟩
  | 47 => ⟨S1, .i32⟩
  | 48 => ⟨S_, .i32⟩
  | 49 => ⟨S4x2000x1, .i32⟩
  | 50 => ⟨S4x2000x1, .i1⟩
  | 51 => ⟨S1x1x1, .i32⟩
  | 52 => ⟨S4x2000x1, .i32⟩
  | 53 => ⟨S4x2000x1, .i1⟩
  | 54 => ⟨S4x2000x1, .i1⟩
  | 55 => ⟨S_, .i1⟩
  | 56 => ⟨S4x2000, .i1⟩
  | 57 => ⟨S4x2000x2, .f32⟩
  | 58 => ⟨S4x2000x2, .i1⟩
  | 59 => ⟨S_, .f32⟩
  | 60 => ⟨S4x2000x2, .f32⟩
  | 61 => ⟨S4x2000x2, .f32⟩
  | 62 => ⟨S4x1024x7, .f32⟩
  | 63 => ⟨S4x1024x7x2, .f32⟩
  | 64 => ⟨S4x1024x3, .f32⟩
  | 65 => ⟨S4x1024x3, .i32⟩
  | 66 => ⟨S4x1024x3x1, .i32⟩
  | 67 => ⟨S_, .i32⟩
  | 68 => ⟨S4x1024x3x1, .i32⟩
  | 69 => ⟨S4x1024x3x1, .i1⟩
  | 70 => ⟨S_, .i32⟩
  | 71 => ⟨S4x1024x3x1, .i32⟩
  | 72 => ⟨S4x1024x3x1, .i32⟩
  | 73 => ⟨S4x1024x3x1, .i32⟩
  | 74 => ⟨S1, .i32⟩
  | 75 => ⟨S_, .i32⟩
  | 76 => ⟨S4x1024x3x1, .i32⟩
  | 77 => ⟨S4x1024x3x1, .i1⟩
  | 78 => ⟨S1x1x1x1, .i32⟩
  | 79 => ⟨S4x1024x3x1, .i32⟩
  | 80 => ⟨S4x1024x3x1, .i1⟩
  | 81 => ⟨S4x1024x3x1, .i1⟩
  | 82 => ⟨S_, .i1⟩
  | 83 => ⟨S4x1024x3, .i1⟩
  | 84 => ⟨S4x1024x3x2, .f32⟩
  | 85 => ⟨S4x1024x3x2, .i1⟩
  | 86 => ⟨S_, .f32⟩
  | 87 => ⟨S4x1024x3x2, .f32⟩
  | 88 => ⟨S4x1024x3x2, .f32⟩
  | 89 => ⟨S4x2000x1, .i32⟩
  | 90 => ⟨S4x2000x3, .i32⟩
  | 91 => ⟨S_, .i32⟩
  | 92 => ⟨S4x2000x3, .i32⟩
  | 93 => ⟨S4x2000x3, .i1⟩
  | 94 => ⟨S_, .i32⟩
  | 95 => ⟨S4x2000x3, .i32⟩
  | 96 => ⟨S4x2000x3, .i32⟩
  | 97 => ⟨S4x2000x3, .i32⟩
  | 98 => ⟨S4x2000x3x1, .i32⟩
  | 99 => ⟨S1, .i32⟩
  | 100 => ⟨S_, .i32⟩
  | 101 => ⟨S4x2000x3x1, .i32⟩
  | 102 => ⟨S4x2000x3x1, .i1⟩
  | 103 => ⟨S1x1x1x1, .i32⟩
  | 104 => ⟨S4x2000x3x1, .i32⟩
  | 105 => ⟨S4x2000x3x1, .i1⟩
  | 106 => ⟨S4x2000x3x1, .i1⟩
  | 107 => ⟨S_, .i1⟩
  | 108 => ⟨S4x2000x3, .i1⟩
  | 109 => ⟨S4x2000x3, .f32⟩
  | 110 => ⟨S_, .f32⟩
  | 111 => ⟨S4x2000x3, .f32⟩
  | 112 => ⟨S4x2000x3, .f32⟩
  | 113 => ⟨S4x2000x1x1, .i32⟩
  | 114 => ⟨S4x2000x3x2, .i32⟩
  | 115 => ⟨S_, .i32⟩
  | 116 => ⟨S4x2000x3x2, .i32⟩
  | 117 => ⟨S4x2000x3x2, .i1⟩
  | 118 => ⟨S_, .i32⟩
  | 119 => ⟨S4x2000x3x2, .i32⟩
  | 120 => ⟨S4x2000x3x2, .i32⟩
  | 121 => ⟨S4x2000x3x2, .i32⟩
  | 122 => ⟨S4x2000x3x2x1, .i32⟩
  | 123 => ⟨S1, .i32⟩
  | 124 => ⟨S_, .i32⟩
  | 125 => ⟨S4x2000x3x2x1, .i32⟩
  | 126 => ⟨S4x2000x3x2x1, .i1⟩
  | 127 => ⟨S1x1x1x1x1, .i32⟩
  | _ => ⟨S4x14x32x32, .f32⟩

abbrev hbmTy0_3 (i : Nat) : BufTy := match i % 128 with
  | 0 => ⟨S4x2000x3x2x1, .i32⟩
  | 1 => ⟨S4x2000x3x2x1, .i1⟩
  | 2 => ⟨S4x2000x3x2x1, .i1⟩
  | 3 => ⟨S_, .i1⟩
  | 4 => ⟨S4x2000x3x2, .i1⟩
  | 5 => ⟨S4x2000x3x2, .f32⟩
  | 6 => ⟨S_, .f32⟩
  | 7 => ⟨S4x2000x3x2, .f32⟩
  | 8 => ⟨S4x2000x3x2, .f32⟩
  | 9 => ⟨S4x2000x1x2, .f32⟩
  | 10 => ⟨S4x2000x3x2, .f32⟩
  | 11 => ⟨S4x2000x3x1, .f32⟩
  | 12 => ⟨S4x2000x3, .f32⟩
  | 13 => ⟨S4x2000x3x1, .f32⟩
  | 14 => ⟨S4x2000x3, .f32⟩
  | 15 => ⟨S4x2000x3x1, .f32⟩
  | 16 => ⟨S4x2000x3, .f32⟩
  | 17 => ⟨S4x2000x3x1, .f32⟩
  | 18 => ⟨S4x2000x3, .f32⟩
  | 19 => ⟨S4x2000x3x1, .f32⟩
  | 20 => ⟨S4x2000x3x1, .f32⟩
  | 21 => ⟨S4x2000x3x1, .f32⟩
  | 22 => ⟨S4x2000x3x1, .f32⟩
  | 23 => ⟨S4x2000x3x4, .f32⟩
  | 24 => ⟨S4x2000x1, .f32⟩
  | 25 => ⟨S4x2000x3, .f32⟩
  | 26 => ⟨S4x2000x3, .f32⟩
  | 27 => ⟨S4x6000x4, .f32⟩
  | 28 => ⟨S4x6000, .f32⟩
  | 29 => ⟨S4x12000x4, .f32⟩
  | 30 => ⟨S4x12000, .f32⟩
  | 31 => ⟨S4x1, .f32⟩
  | 32 => ⟨S4, .f32⟩
  | 33 => ⟨S4x1, .f32⟩
  | 34 => ⟨S4x1, .f32⟩
  | 35 => ⟨S4, .f32⟩
  | 36 => ⟨S4x1, .f32⟩
  | 37 => ⟨S4x12000x1, .f32⟩
  | 38 => ⟨S4x12000, .f32⟩
  | 39 => ⟨S_, .f32⟩
  | 40 => ⟨S4x1, .f32⟩
  | 41 => ⟨S4x1, .f32⟩
  | 42 => ⟨S_, .f32⟩
  | 43 => ⟨S_, .f32⟩
  | 44 => ⟨S4x12000, .f32⟩
  | 45 => ⟨S4x12000, .f32⟩
  | 46 => ⟨S4x12000, .f32⟩
  | 47 => ⟨S4x12000, .f32⟩
  | 48 => ⟨S4x12000x1, .f32⟩
  | 49 => ⟨S4x12000, .f32⟩
  | 50 => ⟨S_, .f32⟩
  | 51 => ⟨S4x1, .f32⟩
  | 52 => ⟨S4x1, .f32⟩
  | 53 => ⟨S_, .f32⟩
  | 54 => ⟨S_, .f32⟩
  | 55 => ⟨S4x12000, .f32⟩
  | 56 => ⟨S4x12000, .f32⟩
  | 57 => ⟨S4x12000, .f32⟩
  | 58 => ⟨S4x12000, .f32⟩
  | 59 => ⟨S4x12000x1, .f32⟩
  | 60 => ⟨S4x12000, .f32⟩
  | 61 => ⟨S_, .f32⟩
  | 62 => ⟨S4x1, .f32⟩
  | 63 => ⟨S4x1, .f32⟩
  | 64 => ⟨S_, .f32⟩
  | 65 => ⟨S_, .f32⟩
  | 66 => ⟨S4x12000, .f32⟩
  | 67 => ⟨S4x12000, .f32⟩
  | 68 => ⟨S4x12000, .f32⟩
  | 69 => ⟨S4x12000, .f32⟩
  | 70 => ⟨S4x12000x1, .f32⟩
  | 71 => ⟨S4x12000, .f32⟩
  | 72 => ⟨S_, .f32⟩
  | 73 => ⟨S4x1, .f32⟩
  | 74 => ⟨S4x1, .f32⟩
  | 75 => ⟨S_, .f32⟩
  | 76 => ⟨S_, .f32⟩
  | 77 => ⟨S4x12000, .f32⟩
  | 78 => ⟨S4x12000, .f32⟩
  | 79 => ⟨S4x12000, .f32⟩
  | 80 => ⟨S4x12000, .f32⟩
  | 81 => ⟨S4x12000x1, .f32⟩
  | 82 => ⟨S4x12000x1, .f32⟩
  | 83 => ⟨S4x12000x1, .f32⟩
  | 84 => ⟨S4x12000x1, .f32⟩
  | 85 => ⟨S4x12000x4, .f32⟩
  | 86 => ⟨S4x6000, .f32⟩
  | 87 => ⟨S4x6000, .i32⟩
  | 88 => ⟨S4x6000x1, .i32⟩
  | 89 => ⟨S_, .i32⟩
  | 90 => ⟨S4x6000x1, .i32⟩
  | 91 => ⟨S4x6000x1, .i1⟩
  | 92 => ⟨S_, .i32⟩
  | 93 => ⟨S4x6000x1, .i32⟩
  | 94 => ⟨S4x6000x1, .i32⟩
  | 95 => ⟨S4x6000x1, .i32⟩
  | 96 => ⟨S1, .i32⟩
  | 97 => ⟨S_, .i32⟩
  | 98 => ⟨S4x6000x1, .i32⟩
  | 99 => ⟨S4x6000x1, .i1⟩
  | 100 => ⟨S1x1x1, .i32⟩
  | 101 => ⟨S4x6000x1, .i32⟩
  | 102 => ⟨S4x6000x1, .i1⟩
  | 103 => ⟨S4x6000x1, .i1⟩
  | 104 => ⟨S_, .i1⟩
  | 105 => ⟨S4x6000, .i1⟩
  | 106 => ⟨S4x6000x4, .f32⟩
  | 107 => ⟨S4x6000x4, .i1⟩
  | 108 => ⟨S_, .f32⟩
  | 109 => ⟨S4x6000x4, .f32⟩
  | 110 => ⟨S4x6000x4, .f32⟩
  | 111 => ⟨S_, .f32⟩
  | 112 => ⟨S4x16x8, .f32⟩
  | 113 => ⟨S_, .f32⟩
  | 114 => ⟨S4x6000x4, .f32⟩
  | 115 => ⟨S4x6000x8, .f32⟩
  | 116 => ⟨S4x6016x8, .f32⟩
  | 117 => ⟨S4x47x128x8, .f32⟩
  | 118 => ⟨S4x8x6016, .f32⟩
  | 119 => ⟨S4x8x47x128, .f32⟩
  | 120 => ⟨S4x47x8x128, .f32⟩
  | 121 => ⟨S4x304x8, .f32⟩
  | 122 => ⟨S4x300x4, .f32⟩
  | 123 => ⟨S4, .f32⟩
  | 124 => ⟨S4x1x1, .f32⟩
  | 125 => ⟨S4x300x1, .f32⟩
  | 126 => ⟨S4x300x5, .f32⟩
  | _ => ⟨S4x14x32x32, .f32⟩

abbrev hbmTy (i : Nat) : BufTy := match i / 128 with
  | 0 => hbmTy0_0 i
  | 1 => hbmTy0_1 i
  | 2 => hbmTy0_2 i
  | 3 => hbmTy0_3 i
  | _ => ⟨S4x14x32x32, .f32⟩

abbrev bufTy : (tb : Table) → Fin (tcTables nBuf tb) → BufTy
  | .hbm, ⟨i, _⟩ => hbmTy i
  | .local _ .vmem, ⟨0, _⟩ => ⟨S1x47x8x128, .f32⟩
  | .local _ .vmem, ⟨1, _⟩ => ⟨S1x47x8x128, .f32⟩
  | .local _ .vmem, ⟨2, _⟩ => ⟨S1x47x128x8, .f32⟩
  | .local _ .vmem, ⟨3, _⟩ => ⟨S1x47x128x8, .f32⟩
  | .local _ .vmem, ⟨4, _⟩ => ⟨S1x304x8, .f32⟩
  | .local _ .vmem, ⟨5, _⟩ => ⟨S1x304x8, .f32⟩
  | .local _ .vmem, ⟨6, _⟩ => ⟨S48x128, .f32⟩
  | .local _ .vmem, ⟨7, _⟩ => ⟨S128x128, .f32⟩
  | .local _ .smem, ⟨0, _⟩ => ⟨S1, .i32⟩
  | _, _ => ⟨S4x14x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_cst_14 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_15 : Ref sig .tc := ⟨.hbm, 120, rfl⟩
abbrev main_v89 : Ref sig .tc := ⟨.hbm, 121, rfl⟩
abbrev main_v90 : Ref sig .tc := ⟨.hbm, 122, rfl⟩
abbrev main_cst_16 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_17 : Ref sig .tc := ⟨.hbm, 127, rfl⟩
abbrev main_v94 : Ref sig .tc := ⟨.hbm, 128, rfl⟩
abbrev main_v95 : Ref sig .tc := ⟨.hbm, 129, rfl⟩
abbrev main_cst_18 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_values : Ref sig .tc := ⟨.hbm, 137, rfl⟩
abbrev main_indices : Ref sig .tc := ⟨.hbm, 138, rfl⟩
abbrev main_c : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_v8 : Ref sig .tc := ⟨.hbm, 148, rfl⟩
abbrev main_call2_c : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_c_0 : Ref sig .tc := ⟨.hbm, 153, rfl⟩
abbrev main_call2_v12 : Ref sig .tc := ⟨.hbm, 154, rfl⟩
abbrev main_call2_v13 : Ref sig .tc := ⟨.hbm, 155, rfl⟩
abbrev main_v102 : Ref sig .tc := ⟨.hbm, 156, rfl⟩
abbrev main_v103 : Ref sig .tc := ⟨.hbm, 157, rfl⟩
abbrev main_call3_c : Ref sig .tc := ⟨.hbm, 158, rfl⟩
abbrev main_call3_v0 : Ref sig .tc := ⟨.hbm, 159, rfl⟩
abbrev main_call3_v1 : Ref sig .tc := ⟨.hbm, 160, rfl⟩
abbrev main_call3_c_0 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_c_1 : Ref sig .tc := ⟨.hbm, 165, rfl⟩
abbrev main_call3_c_2 : Ref sig .tc := ⟨.hbm, 166, rfl⟩
abbrev main_call3_v5 : Ref sig .tc := ⟨.hbm, 167, rfl⟩
abbrev main_call3_v6 : Ref sig .tc := ⟨.hbm, 168, rfl⟩
abbrev main_call3_v7 : Ref sig .tc := ⟨.hbm, 169, rfl⟩
abbrev main_call3_v8 : Ref sig .tc := ⟨.hbm, 170, rfl⟩
abbrev main_call3_v9 : Ref sig .tc := ⟨.hbm, 171, rfl⟩
abbrev main_call3_v10 : Ref sig .tc := ⟨.hbm, 172, rfl⟩
abbrev main_call3_c_3 : Ref sig .tc := ⟨.hbm, 173, rfl⟩
abbrev main_call3_v11 : Ref sig .tc := ⟨.hbm, 174, rfl⟩
abbrev main_call3_v12 : Ref sig .tc := ⟨.hbm, 175, rfl⟩
abbrev main_call3_v13 : Ref sig .tc := ⟨.hbm, 176, rfl⟩
abbrev main_call3_cst : Ref sig .tc := ⟨.hbm, 177, rfl⟩
abbrev main_call3_v14 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_values_19 : Ref sig .tc := ⟨.hbm, 182, rfl⟩
abbrev main_indices_20 : Ref sig .tc := ⟨.hbm, 183, rfl⟩
abbrev main_v107 : Ref sig .tc := ⟨.hbm, 184, rfl⟩
abbrev main_call4_c : Ref sig .tc := ⟨.hbm, 185, rfl⟩
abbrev main_call4_v0 : Ref sig .tc := ⟨.hbm, 186, rfl⟩
abbrev main_call4_v1 : Ref sig .tc := ⟨.hbm, 187, rfl⟩
abbrev main_call4_c_0 : Ref sig .tc := ⟨.hbm, 188, rfl⟩
abbrev main_call4_v2 : Ref sig .tc := ⟨.hbm, 189, rfl⟩
abbrev main_call4_v3 : Ref sig .tc := ⟨.hbm, 190, rfl⟩
abbrev main_call4_v4 : Ref sig .tc := ⟨.hbm, 191, rfl⟩
abbrev main_call4_c_1 : Ref sig .tc := ⟨.hbm, 192, rfl⟩
abbrev main_call4_c_2 : Ref sig .tc := ⟨.hbm, 193, rfl⟩
abbrev main_call4_v5 : Ref sig .tc := ⟨.hbm, 194, rfl⟩
abbrev main_call4_v6 : Ref sig .tc := ⟨.hbm, 195, rfl⟩
abbrev main_call4_v7 : Ref sig .tc := ⟨.hbm, 196, rfl⟩
abbrev main_call4_v8 : Ref sig .tc := ⟨.hbm, 197, rfl⟩
abbrev main_call4_v9 : Ref sig .tc := ⟨.hbm, 198, rfl⟩
abbrev main_call4_v10 : Ref sig .tc := ⟨.hbm, 199, rfl⟩
abbrev main_call4_c_3 : Ref sig .tc := ⟨.hbm, 200, rfl⟩
abbrev main_call4_v11 : Ref sig .tc := ⟨.hbm, 201, rfl⟩
abbrev main_call4_v12 : Ref sig .tc := ⟨.hbm, 202, rfl⟩
abbrev main_call4_v13 : Ref sig .tc := ⟨.hbm, 203, rfl⟩
abbrev main_call4_cst : Ref sig .tc := ⟨.hbm, 204, rfl⟩
abbrev main_call4_v14 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_call5_c : Ref sig .tc := ⟨.hbm, 209, rfl⟩
abbrev main_call5_v0 : Ref sig .tc := ⟨.hbm, 210, rfl⟩
abbrev main_call5_v1 : Ref sig .tc := ⟨.hbm, 211, rfl⟩
abbrev main_call5_c_0 : Ref sig .tc := ⟨.hbm, 212, rfl⟩
abbrev main_call5_v2 : Ref sig .tc := ⟨.hbm, 213, rfl⟩
abbrev main_call5_v3 : Ref sig .tc := ⟨.hbm, 214, rfl⟩
abbrev main_call5_v4 : Ref sig .tc := ⟨.hbm, 215, rfl⟩
abbrev main_call5_v5 : Ref sig .tc := ⟨.hbm, 216, rfl⟩
abbrev main_call5_c_1 : Ref sig .tc := ⟨.hbm, 217, rfl⟩
abbrev main_call5_c_2 : Ref sig .tc := ⟨.hbm, 218, rfl⟩
abbrev main_call5_v6 : Ref sig .tc := ⟨.hbm, 219, rfl⟩
abbrev main_call5_v7 : Ref sig .tc := ⟨.hbm, 220, rfl⟩
abbrev main_call5_v8 : Ref sig .tc := ⟨.hbm, 221, rfl⟩
abbrev main_call5_v9 : Ref sig .tc := ⟨.hbm, 222, rfl⟩
abbrev main_call5_v10 : Ref sig .tc := ⟨.hbm, 223, rfl⟩
abbrev main_call5_v11 : Ref sig .tc := ⟨.hbm, 224, rfl⟩
abbrev main_call5_c_3 : Ref sig .tc := ⟨.hbm, 225, rfl⟩
abbrev main_call5_v12 : Ref sig .tc := ⟨.hbm, 226, rfl⟩
abbrev main_call5_v13 : Ref sig .tc := ⟨.hbm, 227, rfl⟩
abbrev main_call5_cst : Ref sig .tc := ⟨.hbm, 228, rfl⟩
abbrev main_call5_v14 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_call6_c : Ref sig .tc := ⟨.hbm, 233, rfl⟩
abbrev main_call6_v0 : Ref sig .tc := ⟨.hbm, 234, rfl⟩
abbrev main_call6_v1 : Ref sig .tc := ⟨.hbm, 235, rfl⟩
abbrev main_call6_c_0 : Ref sig .tc := ⟨.hbm, 236, rfl⟩
abbrev main_call6_v2 : Ref sig .tc := ⟨.hbm, 237, rfl⟩
abbrev main_call6_v3 : Ref sig .tc := ⟨.hbm, 238, rfl⟩
abbrev main_call6_v4 : Ref sig .tc := ⟨.hbm, 239, rfl⟩
abbrev main_call6_v5 : Ref sig .tc := ⟨.hbm, 240, rfl⟩
abbrev main_call6_c_1 : Ref sig .tc := ⟨.hbm, 241, rfl⟩
abbrev main_call6_c_2 : Ref sig .tc := ⟨.hbm, 242, rfl⟩
abbrev main_call6_v6 : Ref sig .tc := ⟨.hbm, 243, rfl⟩
abbrev main_call6_v7 : Ref sig .tc := ⟨.hbm, 244, rfl⟩
abbrev main_call6_v8 : Ref sig .tc := ⟨.hbm, 245, rfl⟩
abbrev main_call6_v9 : Ref sig .tc := ⟨.hbm, 246, rfl⟩
abbrev main_call6_v10 : Ref sig .tc := ⟨.hbm, 247, rfl⟩
abbrev main_call6_v11 : Ref sig .tc := ⟨.hbm, 248, rfl⟩
abbrev main_call6_c_3 : Ref sig .tc := ⟨.hbm, 249, rfl⟩
abbrev main_call6_v12 : Ref sig .tc := ⟨.hbm, 250, rfl⟩
abbrev main_call6_v13 : Ref sig .tc := ⟨.hbm, 251, rfl⟩
abbrev main_call6_cst : Ref sig .tc := ⟨.hbm, 252, rfl⟩
abbrev main_call6_v14 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_v118 : Ref sig .tc := ⟨.hbm, 258, rfl⟩
abbrev main_v119 : Ref sig .tc := ⟨.hbm, 259, rfl⟩
abbrev main_v120 : Ref sig .tc := ⟨.hbm, 260, rfl⟩
abbrev main_v121 : Ref sig .tc := ⟨.hbm, 261, rfl⟩
abbrev main_v122 : Ref sig .tc := ⟨.hbm, 262, rfl⟩
abbrev main_v123 : Ref sig .tc := ⟨.hbm, 263, rfl⟩
abbrev main_v124 : Ref sig .tc := ⟨.hbm, 264, rfl⟩
abbrev main_v125 : Ref sig .tc := ⟨.hbm, 265, rfl⟩
abbrev main_v126 : Ref sig .tc := ⟨.hbm, 266, rfl⟩
abbrev main_v127 : Ref sig .tc := ⟨.hbm, 267, rfl⟩
abbrev main_v128 : Ref sig .tc := ⟨.hbm, 268, rfl⟩
abbrev main_v129 : Ref sig .tc := ⟨.hbm, 269, rfl⟩
abbrev main_v130 : Ref sig .tc := ⟨.hbm, 270, rfl⟩
abbrev main_v131 : Ref sig .tc := ⟨.hbm, 271, rfl⟩
abbrev main_v132 : Ref sig .tc := ⟨.hbm, 272, rfl⟩
abbrev main_v133 : Ref sig .tc := ⟨.hbm, 273, rfl⟩
abbrev main_v134 : Ref sig .tc := ⟨.hbm, 274, rfl⟩
abbrev main_values_21 : Ref sig .tc := ⟨.hbm, 275, rfl⟩
abbrev main_indices_22 : Ref sig .tc := ⟨.hbm, 276, rfl⟩
abbrev main_c_23 : Ref sig .tc := ⟨.hbm, 277, rfl⟩
abbrev main_call7_v0 : Ref sig .tc := ⟨.hbm, 278, rfl⟩
abbrev main_call7_v1 : Ref sig .tc := ⟨.hbm, 279, rfl⟩
abbrev main_call7_v2 : Ref sig .tc := ⟨.hbm, 280, rfl⟩
abbrev main_call7_v3 : Ref sig .tc := ⟨.hbm, 281, rfl⟩
abbrev main_call7_v4 : Ref sig .tc := ⟨.hbm, 282, rfl⟩
abbrev main_call7_v5 : Ref sig .tc := ⟨.hbm, 283, rfl⟩
abbrev main_call7_v6 : Ref sig .tc := ⟨.hbm, 284, rfl⟩
abbrev main_call7_v7 : Ref sig .tc := ⟨.hbm, 285, rfl⟩
abbrev main_call7_v8 : Ref sig .tc := ⟨.hbm, 286, rfl⟩
abbrev main_call7_c : Ref sig .tc := ⟨.hbm, 287, rfl⟩
abbrev main_call7_v9 : Ref sig .tc := ⟨.hbm, 288, rfl⟩
abbrev main_call7_v10 : Ref sig .tc := ⟨.hbm, 289, rfl⟩
abbrev main_call7_v11 : Ref sig .tc := ⟨.hbm, 290, rfl⟩
abbrev main_call7_c_0 : Ref sig .tc := ⟨.hbm, 291, rfl⟩
abbrev main_call7_v12 : Ref sig .tc := ⟨.hbm, 292, rfl⟩
abbrev main_call7_v13 : Ref sig .tc := ⟨.hbm, 293, rfl⟩
abbrev main_v135 : Ref sig .tc := ⟨.hbm, 294, rfl⟩
abbrev main_v136 : Ref sig .tc := ⟨.hbm, 295, rfl⟩
abbrev main_call8_c : Ref sig .tc := ⟨.hbm, 296, rfl⟩
abbrev main_call8_v0 : Ref sig .tc := ⟨.hbm, 297, rfl⟩
abbrev main_call8_v1 : Ref sig .tc := ⟨.hbm, 298, rfl⟩
abbrev main_call8_c_0 : Ref sig .tc := ⟨.hbm, 299, rfl⟩
abbrev main_call8_v2 : Ref sig .tc := ⟨.hbm, 300, rfl⟩
abbrev main_call8_v3 : Ref sig .tc := ⟨.hbm, 301, rfl⟩
abbrev main_call8_v4 : Ref sig .tc := ⟨.hbm, 302, rfl⟩
abbrev main_call8_c_1 : Ref sig .tc := ⟨.hbm, 303, rfl⟩
abbrev main_call8_c_2 : Ref sig .tc := ⟨.hbm, 304, rfl⟩
abbrev main_call8_v5 : Ref sig .tc := ⟨.hbm, 305, rfl⟩
abbrev main_call8_v6 : Ref sig .tc := ⟨.hbm, 306, rfl⟩
abbrev main_call8_v7 : Ref sig .tc := ⟨.hbm, 307, rfl⟩
abbrev main_call8_v8 : Ref sig .tc := ⟨.hbm, 308, rfl⟩
abbrev main_call8_v9 : Ref sig .tc := ⟨.hbm, 309, rfl⟩
abbrev main_call8_v10 : Ref sig .tc := ⟨.hbm, 310, rfl⟩
abbrev main_call8_c_3 : Ref sig .tc := ⟨.hbm, 311, rfl⟩
abbrev main_call8_v11 : Ref sig .tc := ⟨.hbm, 312, rfl⟩
abbrev main_call8_v12 : Ref sig .tc := ⟨.hbm, 313, rfl⟩
abbrev main_call8_v13 : Ref sig .tc := ⟨.hbm, 314, rfl⟩
abbrev main_call8_cst : Ref sig .tc := ⟨.hbm, 315, rfl⟩
abbrev main_call8_v14 : Ref sig .tc := ⟨.hbm, 316, rfl⟩
abbrev main_v137 : Ref sig .tc := ⟨.hbm, 317, rfl⟩
abbrev main_v138 : Ref sig .tc := ⟨.hbm, 318, rfl⟩
abbrev main_v139 : Ref sig .tc := ⟨.hbm, 319, rfl⟩
abbrev main_values_24 : Ref sig .tc := ⟨.hbm, 320, rfl⟩
abbrev main_indices_25 : Ref sig .tc := ⟨.hbm, 321, rfl⟩
abbrev main_v140 : Ref sig .tc := ⟨.hbm, 322, rfl⟩
abbrev main_call9_c : Ref sig .tc := ⟨.hbm, 323, rfl⟩
abbrev main_call9_v0 : Ref sig .tc := ⟨.hbm, 324, rfl⟩
abbrev main_call9_v1 : Ref sig .tc := ⟨.hbm, 325, rfl⟩
abbrev main_call9_c_0 : Ref sig .tc := ⟨.hbm, 326, rfl⟩
abbrev main_call9_v2 : Ref sig .tc := ⟨.hbm, 327, rfl⟩
abbrev main_call9_v3 : Ref sig .tc := ⟨.hbm, 328, rfl⟩
abbrev main_call9_v4 : Ref sig .tc := ⟨.hbm, 329, rfl⟩
abbrev main_call9_c_1 : Ref sig .tc := ⟨.hbm, 330, rfl⟩
abbrev main_call9_c_2 : Ref sig .tc := ⟨.hbm, 331, rfl⟩
abbrev main_call9_v5 : Ref sig .tc := ⟨.hbm, 332, rfl⟩
abbrev main_call9_v6 : Ref sig .tc := ⟨.hbm, 333, rfl⟩
abbrev main_call9_v7 : Ref sig .tc := ⟨.hbm, 334, rfl⟩
abbrev main_call9_v8 : Ref sig .tc := ⟨.hbm, 335, rfl⟩
abbrev main_call9_v9 : Ref sig .tc := ⟨.hbm, 336, rfl⟩
abbrev main_call9_v10 : Ref sig .tc := ⟨.hbm, 337, rfl⟩
abbrev main_call9_c_3 : Ref sig .tc := ⟨.hbm, 338, rfl⟩
abbrev main_call9_v11 : Ref sig .tc := ⟨.hbm, 339, rfl⟩
abbrev main_call9_v12 : Ref sig .tc := ⟨.hbm, 340, rfl⟩
abbrev main_call9_v13 : Ref sig .tc := ⟨.hbm, 341, rfl⟩
abbrev main_call9_cst : Ref sig .tc := ⟨.hbm, 342, rfl⟩
abbrev main_call9_v14 : Ref sig .tc := ⟨.hbm, 343, rfl⟩
abbrev main_v141 : Ref sig .tc := ⟨.hbm, 344, rfl⟩
abbrev main_v142 : Ref sig .tc := ⟨.hbm, 345, rfl⟩
abbrev main_v143 : Ref sig .tc := ⟨.hbm, 346, rfl⟩
abbrev main_call10_c : Ref sig .tc := ⟨.hbm, 347, rfl⟩
abbrev main_call10_v0 : Ref sig .tc := ⟨.hbm, 348, rfl⟩
abbrev main_call10_v1 : Ref sig .tc := ⟨.hbm, 349, rfl⟩
abbrev main_call10_c_0 : Ref sig .tc := ⟨.hbm, 350, rfl⟩
abbrev main_call10_v2 : Ref sig .tc := ⟨.hbm, 351, rfl⟩
abbrev main_call10_v3 : Ref sig .tc := ⟨.hbm, 352, rfl⟩
abbrev main_call10_v4 : Ref sig .tc := ⟨.hbm, 353, rfl⟩
abbrev main_call10_v5 : Ref sig .tc := ⟨.hbm, 354, rfl⟩
abbrev main_call10_c_1 : Ref sig .tc := ⟨.hbm, 355, rfl⟩
abbrev main_call10_c_2 : Ref sig .tc := ⟨.hbm, 356, rfl⟩
abbrev main_call10_v6 : Ref sig .tc := ⟨.hbm, 357, rfl⟩
abbrev main_call10_v7 : Ref sig .tc := ⟨.hbm, 358, rfl⟩
abbrev main_call10_v8 : Ref sig .tc := ⟨.hbm, 359, rfl⟩
abbrev main_call10_v9 : Ref sig .tc := ⟨.hbm, 360, rfl⟩
abbrev main_call10_v10 : Ref sig .tc := ⟨.hbm, 361, rfl⟩
abbrev main_call10_v11 : Ref sig .tc := ⟨.hbm, 362, rfl⟩
abbrev main_call10_c_3 : Ref sig .tc := ⟨.hbm, 363, rfl⟩
abbrev main_call10_v12 : Ref sig .tc := ⟨.hbm, 364, rfl⟩
abbrev main_call10_v13 : Ref sig .tc := ⟨.hbm, 365, rfl⟩
abbrev main_call10_cst : Ref sig .tc := ⟨.hbm, 366, rfl⟩
abbrev main_call10_v14 : Ref sig .tc := ⟨.hbm, 367, rfl⟩
abbrev main_v144 : Ref sig .tc := ⟨.hbm, 368, rfl⟩
abbrev main_v145 : Ref sig .tc := ⟨.hbm, 369, rfl⟩
abbrev main_v146 : Ref sig .tc := ⟨.hbm, 370, rfl⟩
abbrev main_call11_c : Ref sig .tc := ⟨.hbm, 371, rfl⟩
abbrev main_call11_v0 : Ref sig .tc := ⟨.hbm, 372, rfl⟩
abbrev main_call11_v1 : Ref sig .tc := ⟨.hbm, 373, rfl⟩
abbrev main_call11_c_0 : Ref sig .tc := ⟨.hbm, 374, rfl⟩
abbrev main_call11_v2 : Ref sig .tc := ⟨.hbm, 375, rfl⟩
abbrev main_call11_v3 : Ref sig .tc := ⟨.hbm, 376, rfl⟩
abbrev main_call11_v4 : Ref sig .tc := ⟨.hbm, 377, rfl⟩
abbrev main_call11_v5 : Ref sig .tc := ⟨.hbm, 378, rfl⟩
abbrev main_call11_c_1 : Ref sig .tc := ⟨.hbm, 379, rfl⟩
abbrev main_call11_c_2 : Ref sig .tc := ⟨.hbm, 380, rfl⟩
abbrev main_call11_v6 : Ref sig .tc := ⟨.hbm, 381, rfl⟩
abbrev main_call11_v7 : Ref sig .tc := ⟨.hbm, 382, rfl⟩
abbrev main_call11_v8 : Ref sig .tc := ⟨.hbm, 383, rfl⟩
abbrev main_call11_v9 : Ref sig .tc := ⟨.hbm, 384, rfl⟩
abbrev main_call11_v10 : Ref sig .tc := ⟨.hbm, 385, rfl⟩
abbrev main_call11_v11 : Ref sig .tc := ⟨.hbm, 386, rfl⟩
abbrev main_call11_c_3 : Ref sig .tc := ⟨.hbm, 387, rfl⟩
abbrev main_call11_v12 : Ref sig .tc := ⟨.hbm, 388, rfl⟩
abbrev main_call11_v13 : Ref sig .tc := ⟨.hbm, 389, rfl⟩
abbrev main_call11_cst : Ref sig .tc := ⟨.hbm, 390, rfl⟩
abbrev main_call11_v14 : Ref sig .tc := ⟨.hbm, 391, rfl⟩
abbrev main_v147 : Ref sig .tc := ⟨.hbm, 392, rfl⟩
abbrev main_v148 : Ref sig .tc := ⟨.hbm, 393, rfl⟩
abbrev main_v149 : Ref sig .tc := ⟨.hbm, 394, rfl⟩
abbrev main_v150 : Ref sig .tc := ⟨.hbm, 395, rfl⟩
abbrev main_v151 : Ref sig .tc := ⟨.hbm, 396, rfl⟩
abbrev main_v152 : Ref sig .tc := ⟨.hbm, 397, rfl⟩
abbrev main_v153 : Ref sig .tc := ⟨.hbm, 398, rfl⟩
abbrev main_v154 : Ref sig .tc := ⟨.hbm, 399, rfl⟩
abbrev main_v155 : Ref sig .tc := ⟨.hbm, 400, rfl⟩
abbrev main_v156 : Ref sig .tc := ⟨.hbm, 401, rfl⟩
abbrev main_v157 : Ref sig .tc := ⟨.hbm, 402, rfl⟩
abbrev main_v158 : Ref sig .tc := ⟨.hbm, 403, rfl⟩
abbrev main_v159 : Ref sig .tc := ⟨.hbm, 404, rfl⟩
abbrev main_v160 : Ref sig .tc := ⟨.hbm, 405, rfl⟩
abbrev main_v161 : Ref sig .tc := ⟨.hbm, 406, rfl⟩
abbrev main_v162 : Ref sig .tc := ⟨.hbm, 407, rfl⟩
abbrev main_v163 : Ref sig .tc := ⟨.hbm, 408, rfl⟩
abbrev main_v164 : Ref sig .tc := ⟨.hbm, 409, rfl⟩
abbrev main_v165 : Ref sig .tc := ⟨.hbm, 410, rfl⟩
abbrev main_v166 : Ref sig .tc := ⟨.hbm, 411, rfl⟩
abbrev main_v167 : Ref sig .tc := ⟨.hbm, 412, rfl⟩
abbrev main_v168 : Ref sig .tc := ⟨.hbm, 413, rfl⟩
abbrev main_v169 : Ref sig .tc := ⟨.hbm, 414, rfl⟩
abbrev main_v170 : Ref sig .tc := ⟨.hbm, 415, rfl⟩
abbrev main_v171 : Ref sig .tc := ⟨.hbm, 416, rfl⟩
abbrev main_v172 : Ref sig .tc := ⟨.hbm, 417, rfl⟩
abbrev main_v173 : Ref sig .tc := ⟨.hbm, 418, rfl⟩
abbrev main_v174 : Ref sig .tc := ⟨.hbm, 419, rfl⟩
abbrev main_v175 : Ref sig .tc := ⟨.hbm, 420, rfl⟩
abbrev main_v176 : Ref sig .tc := ⟨.hbm, 421, rfl⟩
abbrev main_v177 : Ref sig .tc := ⟨.hbm, 422, rfl⟩
abbrev main_cst_26 : Ref sig .tc := ⟨.hbm, 423, rfl⟩
abbrev main_v178 : Ref sig .tc := ⟨.hbm, 424, rfl⟩
abbrev main_v179 : Ref sig .tc := ⟨.hbm, 425, rfl⟩
abbrev main_cst_27 : Ref sig .tc := ⟨.hbm, 426, rfl⟩
abbrev main_call12_v0 : Ref sig .tc := ⟨.hbm, 427, rfl⟩
abbrev main_call12_v1 : Ref sig .tc := ⟨.hbm, 428, rfl⟩
abbrev main_call12_v2 : Ref sig .tc := ⟨.hbm, 429, rfl⟩
abbrev main_call12_v3 : Ref sig .tc := ⟨.hbm, 430, rfl⟩
abbrev main_v180 : Ref sig .tc := ⟨.hbm, 431, rfl⟩
abbrev main_v181 : Ref sig .tc := ⟨.hbm, 432, rfl⟩
abbrev main_v182 : Ref sig .tc := ⟨.hbm, 433, rfl⟩
abbrev main_cst_28 : Ref sig .tc := ⟨.hbm, 434, rfl⟩
abbrev main_v183 : Ref sig .tc := ⟨.hbm, 435, rfl⟩
abbrev main_v184 : Ref sig .tc := ⟨.hbm, 436, rfl⟩
abbrev main_cst_29 : Ref sig .tc := ⟨.hbm, 437, rfl⟩
abbrev main_call13_v0 : Ref sig .tc := ⟨.hbm, 438, rfl⟩
abbrev main_call13_v1 : Ref sig .tc := ⟨.hbm, 439, rfl⟩
abbrev main_call13_v2 : Ref sig .tc := ⟨.hbm, 440, rfl⟩
abbrev main_call13_v3 : Ref sig .tc := ⟨.hbm, 441, rfl⟩
abbrev main_v185 : Ref sig .tc := ⟨.hbm, 442, rfl⟩
abbrev main_v186 : Ref sig .tc := ⟨.hbm, 443, rfl⟩
abbrev main_v187 : Ref sig .tc := ⟨.hbm, 444, rfl⟩
abbrev main_cst_30 : Ref sig .tc := ⟨.hbm, 445, rfl⟩
abbrev main_v188 : Ref sig .tc := ⟨.hbm, 446, rfl⟩
abbrev main_v189 : Ref sig .tc := ⟨.hbm, 447, rfl⟩
abbrev main_cst_31 : Ref sig .tc := ⟨.hbm, 448, rfl⟩
abbrev main_call14_v0 : Ref sig .tc := ⟨.hbm, 449, rfl⟩
abbrev main_call14_v1 : Ref sig .tc := ⟨.hbm, 450, rfl⟩
abbrev main_call14_v2 : Ref sig .tc := ⟨.hbm, 451, rfl⟩
abbrev main_call14_v3 : Ref sig .tc := ⟨.hbm, 452, rfl⟩
abbrev main_v190 : Ref sig .tc := ⟨.hbm, 453, rfl⟩
abbrev main_v191 : Ref sig .tc := ⟨.hbm, 454, rfl⟩
abbrev main_v192 : Ref sig .tc := ⟨.hbm, 455, rfl⟩
abbrev main_cst_32 : Ref sig .tc := ⟨.hbm, 456, rfl⟩
abbrev main_v193 : Ref sig .tc := ⟨.hbm, 457, rfl⟩
abbrev main_v194 : Ref sig .tc := ⟨.hbm, 458, rfl⟩
abbrev main_cst_33 : Ref sig .tc := ⟨.hbm, 459, rfl⟩
abbrev main_call15_v0 : Ref sig .tc := ⟨.hbm, 460, rfl⟩
abbrev main_call15_v1 : Ref sig .tc := ⟨.hbm, 461, rfl⟩
abbrev main_call15_v2 : Ref sig .tc := ⟨.hbm, 462, rfl⟩
abbrev main_call15_v3 : Ref sig .tc := ⟨.hbm, 463, rfl⟩
abbrev main_v195 : Ref sig .tc := ⟨.hbm, 464, rfl⟩
abbrev main_v196 : Ref sig .tc := ⟨.hbm, 465, rfl⟩
abbrev main_v197 : Ref sig .tc := ⟨.hbm, 466, rfl⟩
abbrev main_v198 : Ref sig .tc := ⟨.hbm, 467, rfl⟩
abbrev main_v199 : Ref sig .tc := ⟨.hbm, 468, rfl⟩
abbrev main_v200 : Ref sig .tc := ⟨.hbm, 469, rfl⟩
abbrev main_values_34 : Ref sig .tc := ⟨.hbm, 470, rfl⟩
abbrev main_indices_35 : Ref sig .tc := ⟨.hbm, 471, rfl⟩
abbrev main_v201 : Ref sig .tc := ⟨.hbm, 472, rfl⟩
abbrev main_call16_c : Ref sig .tc := ⟨.hbm, 473, rfl⟩
abbrev main_call16_v0 : Ref sig .tc := ⟨.hbm, 474, rfl⟩
abbrev main_call16_v1 : Ref sig .tc := ⟨.hbm, 475, rfl⟩
abbrev main_call16_c_0 : Ref sig .tc := ⟨.hbm, 476, rfl⟩
abbrev main_call16_v2 : Ref sig .tc := ⟨.hbm, 477, rfl⟩
abbrev main_call16_v3 : Ref sig .tc := ⟨.hbm, 478, rfl⟩
abbrev main_call16_v4 : Ref sig .tc := ⟨.hbm, 479, rfl⟩
abbrev main_call16_c_1 : Ref sig .tc := ⟨.hbm, 480, rfl⟩
abbrev main_call16_c_2 : Ref sig .tc := ⟨.hbm, 481, rfl⟩
abbrev main_call16_v5 : Ref sig .tc := ⟨.hbm, 482, rfl⟩
abbrev main_call16_v6 : Ref sig .tc := ⟨.hbm, 483, rfl⟩
abbrev main_call16_v7 : Ref sig .tc := ⟨.hbm, 484, rfl⟩
abbrev main_call16_v8 : Ref sig .tc := ⟨.hbm, 485, rfl⟩
abbrev main_call16_v9 : Ref sig .tc := ⟨.hbm, 486, rfl⟩
abbrev main_call16_v10 : Ref sig .tc := ⟨.hbm, 487, rfl⟩
abbrev main_call16_c_3 : Ref sig .tc := ⟨.hbm, 488, rfl⟩
abbrev main_call16_v11 : Ref sig .tc := ⟨.hbm, 489, rfl⟩
abbrev main_call16_v12 : Ref sig .tc := ⟨.hbm, 490, rfl⟩
abbrev main_call16_v13 : Ref sig .tc := ⟨.hbm, 491, rfl⟩
abbrev main_call16_cst : Ref sig .tc := ⟨.hbm, 492, rfl⟩
abbrev main_call16_v14 : Ref sig .tc := ⟨.hbm, 493, rfl⟩
abbrev main_v202 : Ref sig .tc := ⟨.hbm, 494, rfl⟩
abbrev main_cst_36 : Ref sig .tc := ⟨.hbm, 495, rfl⟩
abbrev main_v203 : Ref sig .tc := ⟨.hbm, 496, rfl⟩
abbrev main_cst_37 : Ref sig .tc := ⟨.hbm, 497, rfl⟩
abbrev main_v204 : Ref sig .tc := ⟨.hbm, 498, rfl⟩
abbrev main_v205 : Ref sig .tc := ⟨.hbm, 499, rfl⟩
abbrev main_v206 : Ref sig .tc := ⟨.hbm, 500, rfl⟩
abbrev main_v207 : Ref sig .tc := ⟨.hbm, 501, rfl⟩
abbrev main_v208 : Ref sig .tc := ⟨.hbm, 502, rfl⟩
abbrev main_v209 : Ref sig .tc := ⟨.hbm, 503, rfl⟩
abbrev main_v210 : Ref sig .tc := ⟨.hbm, 504, rfl⟩
abbrev main_v211 : Ref sig .tc := ⟨.hbm, 505, rfl⟩
abbrev main_v212 : Ref sig .tc := ⟨.hbm, 506, rfl⟩
abbrev main_v213 : Ref sig .tc := ⟨.hbm, 507, rfl⟩
abbrev main_v214 : Ref sig .tc := ⟨.hbm, 508, rfl⟩
abbrev main_v215 : Ref sig .tc := ⟨.hbm, 509, rfl⟩
abbrev main_v216 : Ref sig .tc := ⟨.hbm, 510, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_3 : BitVec 32 := 0#32
  let c47_i32 : BitVec 32 := 47#32
  let v14 : BitVec 32 := Scalar.addi c0_i32_3 c47_i32
  let c1_i32 : BitVec 32 := 1#32
  ⟨c0_i32_3, v14, c1_i32⟩
def k0_off1 (k0_t1 : Fin k0_t1_loop.trips) : Fin 4 → Nat :=
  let c0_7 : Index := 0#32
  let c0_i32_3 : BitVec 32 := 0#32
  let c1_i32 : BitVec 32 := 1#32
  let arg7 : BitVec 32 := Scf.iv c0_i32_3 c1_i32 k0_t1
  let v19 : Index := Scalar.indexCast arg7
  let c0_8 : Index := 0#32
  let c0_9 : Index := 0#32
  ![0, v19.toNat, 0, 0]
def k0_off2 (k0_t1 : Fin k0_t1_loop.trips) : Fin 4 → Nat :=
  let c0_12 : Index := 0#32
  let c0_i32_3 : BitVec 32 := 0#32
  let c1_i32 : BitVec 32 := 1#32
  let arg7 : BitVec 32 := Scf.iv c0_i32_3 c1_i32 k0_t1
  let v33 : Index := Scalar.indexCast arg7
  let c0_13 : Index := 0#32
  let c0_14 : Index := 0#32
  ![0, v33.toNat, 0, 0]
@[reducible] def k0_t2_loop (k0_t1 : Fin k0_t1_loop.trips) : Scf.Loop 32 :=
  let c0_i32_25 : BitVec 32 := 0#32
  let c0_i32_3 : BitVec 32 := 0#32
  let c1_i32 : BitVec 32 := 1#32
  let arg7 : BitVec 32 := Scf.iv c0_i32_3 c1_i32 k0_t1
  let v84 : BitVec 32 := Scalar.subi arg7 c0_i32_25
  let c1_i32_26 : BitVec 32 := 1#32
  let v86 : BitVec 32 := Scalar.divsi v84 c1_i32_26
  let v87 : BitVec 32 := Scalar.muli v86 c1_i32_26
  let v88 : BitVec 32 := Scalar.addi c0_i32_25 v87
  let c1_i32_27 : BitVec 32 := 1#32
  ⟨c0_i32_25, v88, c1_i32_27⟩
def k0_off3 (k0_t1 : Fin k0_t1_loop.trips) (k0_t2 : Fin (k0_t2_loop k0_t1).trips) : Fin 4 → Nat :=
  let c0_54 : Index := 0#32
  let c0_i32_25 : BitVec 32 := 0#32
  let c1_i32_27 : BitVec 32 := 1#32
  let arg8 : BitVec 32 := Scf.iv c0_i32_25 c1_i32_27 k0_t2
  let v135 : Index := Scalar.indexCast arg8
  let c0_55 : Index := 0#32
  let c0_56 : Index := 0#32
  ![0, v135.toNat, 0, 0]
def k0_off4 (k0_t1 : Fin k0_t1_loop.trips) (k0_t2 : Fin (k0_t2_loop k0_t1).trips) : Fin 2 → Nat :=
  let c0_i32_25 : BitVec 32 := 0#32
  let c1_i32_27 : BitVec 32 := 1#32
  let arg8 : BitVec 32 := Scf.iv c0_i32_25 c1_i32_27 k0_t2
  let v181 : Index := Scalar.indexCast arg8
  let c0_64 : Index := 0#32
  ![v181.toNat, 0]
@[reducible] def k0_t3_loop (k0_t1 : Fin k0_t1_loop.trips) : Scf.Loop 32 :=
  let c0_i32_25 : BitVec 32 := 0#32
  let c0_i32_3 : BitVec 32 := 0#32
  let c1_i32 : BitVec 32 := 1#32
  let arg7 : BitVec 32 := Scf.iv c0_i32_3 c1_i32 k0_t1
  let v84 : BitVec 32 := Scalar.subi arg7 c0_i32_25
  let c1_i32_26 : BitVec 32 := 1#32
  let v86 : BitVec 32 := Scalar.divsi v84 c1_i32_26
  let v87 : BitVec 32 := Scalar.muli v86 c1_i32_26
  let v88 : BitVec 32 := Scalar.addi c0_i32_25 v87
  let v85 : BitVec 32 := Scalar.addi c0_i32_25 v84
  let c1_i32_28 : BitVec 32 := 1#32
  ⟨v88, v85, c1_i32_28⟩
def k0_off5 (k0_t1 : Fin k0_t1_loop.trips) (k0_t3 : Fin (k0_t3_loop k0_t1).trips) : Fin 4 → Nat :=
  let c0_54 : Index := 0#32
  let c0_i32_25 : BitVec 32 := 0#32
  let c0_i32_3 : BitVec 32 := 0#32
  let c1_i32 : BitVec 32 := 1#32
  let arg7 : BitVec 32 := Scf.iv c0_i32_3 c1_i32 k0_t1
  let v84 : BitVec 32 := Scalar.subi arg7 c0_i32_25
  let c1_i32_26 : BitVec 32 := 1#32
  let v86 : BitVec 32 := Scalar.divsi v84 c1_i32_26
  let v87 : BitVec 32 := Scalar.muli v86 c1_i32_26
  let v88 : BitVec 32 := Scalar.addi c0_i32_25 v87
  let c1_i32_28 : BitVec 32 := 1#32
  let arg8 : BitVec 32 := Scf.iv v88 c1_i32_28 k0_t3
  let v135 : Index := Scalar.indexCast arg8
  let c0_55 : Index := 0#32
  let c0_56 : Index := 0#32
  ![0, v135.toNat, 0, 0]
def k0_off6 (k0_t1 : Fin k0_t1_loop.trips) (k0_t3 : Fin (k0_t3_loop k0_t1).trips) : Fin 2 → Nat :=
  let c0_i32_25 : BitVec 32 := 0#32
  let c0_i32_3 : BitVec 32 := 0#32
  let c1_i32 : BitVec 32 := 1#32
  let arg7 : BitVec 32 := Scf.iv c0_i32_3 c1_i32 k0_t1
  let v84 : BitVec 32 := Scalar.subi arg7 c0_i32_25
  let c1_i32_26 : BitVec 32 := 1#32
  let v86 : BitVec 32 := Scalar.divsi v84 c1_i32_26
  let v87 : BitVec 32 := Scalar.muli v86 c1_i32_26
  let v88 : BitVec 32 := Scalar.addi c0_i32_25 v87
  let c1_i32_28 : BitVec 32 := 1#32
  let arg8 : BitVec 32 := Scf.iv v88 c1_i32_28 k0_t3
  let v181 : Index := Scalar.indexCast arg8
  let c0_64 : Index := 0#32
  ![v181.toNat, 0]
@[reducible] def k0_t4_loop : Scf.Loop 32 :=
  let c0_i32_29 : BitVec 32 := 0#32
  let c128_i32 : BitVec 32 := 128#32
  let v91 : BitVec 32 := Scalar.addi c0_i32_29 c128_i32
  let c1_i32_30 : BitVec 32 := 1#32
  ⟨c0_i32_29, v91, c1_i32_30⟩
def k0_off7 (k0_t4 : Fin k0_t4_loop.trips) : Fin 2 → Nat :=
  let c0_i32_29 : BitVec 32 := 0#32
  let c1_i32_30 : BitVec 32 := 1#32
  let arg8 : BitVec 32 := Scf.iv c0_i32_29 c1_i32_30 k0_t4
  let v146 : Index := Scalar.indexCast arg8
  let c0_59 : Index := 0#32
  ![v146.toNat, 0]
def k0_off8 (k0_t1 : Fin k0_t1_loop.trips) : Fin 2 → Nat :=
  let c0_i32_3 : BitVec 32 := 0#32
  let c1_i32 : BitVec 32 := 1#32
  let arg7 : BitVec 32 := Scf.iv c0_i32_3 c1_i32 k0_t1
  let v98 : Index := Scalar.indexCast arg7
  let c0_35 : Index := 0#32
  ![v98.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x47x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x47x128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x304x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x14x32x32 : Shape := ⟨4, ![4, 14, 32, 32]⟩
abbrev S4x3 : Shape := ⟨2, ![4, 3]⟩
abbrev S7x2 : Shape := ⟨2, ![7, 2]⟩
abbrev S1x7x2 : Shape := ⟨3, ![1, 7, 2]⟩
abbrev S4x7x32x32 : Shape := ⟨4, ![4, 7, 32, 32]⟩
abbrev S4x32x32x7 : Shape := ⟨4, ![4, 32, 32, 7]⟩
abbrev S4x7168 : Shape := ⟨2, ![4, 7168]⟩
abbrev S4x32x32x14 : Shape := ⟨4, ![4, 32, 32, 14]⟩
abbrev S4x7168x2 : Shape := ⟨3, ![4, 7168, 2]⟩
abbrev S32 : Shape := ⟨1, ![32]⟩
abbrev S_ : Shape := ⟨0, ![]⟩
abbrev S32x32 : Shape := ⟨2, ![32, 32]⟩
abbrev S1024 : Shape := ⟨1, ![1024]⟩
abbrev S1024x1x1 : Shape := ⟨3, ![1024, 1, 1]⟩
abbrev S1024x7x2 : Shape := ⟨3, ![1024, 7, 2]⟩
abbrev S1x7168x2 : Shape := ⟨3, ![1, 7168, 2]⟩
abbrev S4x7168x1 : Shape := ⟨3, ![4, 7168, 1]⟩
abbrev S4x2000 : Shape := ⟨2, ![4, 2000]⟩
abbrev S4x2000x1 : Shape := ⟨3, ![4, 2000, 1]⟩
abbrev S1 : Shape := ⟨1, ![1]⟩
abbrev S1x1x1 : Shape := ⟨3, ![1, 1, 1]⟩
abbrev S4x2000x2 : Shape := ⟨3, ![4, 2000, 2]⟩
abbrev S4x1024x7 : Shape := ⟨3, ![4, 1024, 7]⟩
abbrev S4x1024x7x2 : Shape := ⟨4, ![4, 1024, 7, 2]⟩
abbrev S4x1024x3 : Shape := ⟨3, ![4, 1024, 3]⟩
abbrev S4x1024x3x1 : Shape := ⟨4, ![4, 1024, 3, 1]⟩
abbrev S1x1x1x1 : Shape := ⟨4, ![1, 1, 1, 1]⟩
abbrev S4x1024x3x2 : Shape := ⟨4, ![4, 1024, 3, 2]⟩
abbrev S4x2000x3 : Shape := ⟨3, ![4, 2000, 3]⟩
abbrev S4x2000x3x1 : Shape := ⟨4, ![4, 2000, 3, 1]⟩
abbrev S4x2000x1x1 : Shape := ⟨4, ![4, 2000, 1, 1]⟩
abbrev S4x2000x3x2 : Shape := ⟨4, ![4, 2000, 3, 2]⟩
abbrev S4x2000x3x2x1 : Shape := ⟨5, ![4, 2000, 3, 2, 1]⟩
abbrev S1x1x1x1x1 : Shape := ⟨5, ![1, 1, 1, 1, 1]⟩
abbrev S4x2000x1x2 : Shape := ⟨4, ![4, 2000, 1, 2]⟩
abbrev S4x2000x3x4 : Shape := ⟨4, ![4, 2000, 3, 4]⟩
abbrev S4x6000x4 : Shape := ⟨3, ![4, 6000, 4]⟩
abbrev S4x6000 : Shape := ⟨2, ![4, 6000]⟩
abbrev S4x12000x4 : Shape := ⟨3, ![4, 12000, 4]⟩
abbrev S4x12000 : Shape := ⟨2, ![4, 12000]⟩
abbrev S4x1 : Shape := ⟨2, ![4, 1]⟩
abbrev S4 : Shape := ⟨1, ![4]⟩
abbrev S4x12000x1 : Shape := ⟨3, ![4, 12000, 1]⟩
abbrev S4x6000x1 : Shape := ⟨3, ![4, 6000, 1]⟩
abbrev S6000 : Shape := ⟨1, ![6000]⟩
abbrev S1x6000 : Shape := ⟨2, ![1, 6000]⟩
abbrev S4x300 : Shape := ⟨2, ![4, 300]⟩
abbrev S4x300x1 : Shape := ⟨3, ![4, 300, 1]⟩
abbrev S4x300x4 : Shape := ⟨3, ![4, 300, 4]⟩
abbrev S4x1x1 : Shape := ⟨3, ![4, 1, 1]⟩
abbrev S4x300x5 : Shape := ⟨3, ![4, 300, 5]⟩

abbrev nBuf : Space → Nat
  | .hbm => 678
  | .vmem => 0
  | .smem => 0
  | _ => 0

abbrev hbmTy0_0 (i : Nat) : BufTy := match i % 128 with
  | 0 => ⟨S4x14x32x32, .f32⟩
  | 1 => ⟨S4x14x32x32, .f32⟩
  | 2 => ⟨S4x14x32x32, .f32⟩
  | 3 => ⟨S4x14x32x32, .f32⟩
  | 4 => ⟨S4x3, .f32⟩
  | 5 => ⟨S7x2, .f32⟩
  | 6 => ⟨S1x7x2, .f32⟩
  | 7 => ⟨S7x2, .f32⟩
  | 8 => ⟨S1x7x2, .f32⟩
  | 9 => ⟨S4x7x32x32, .f32⟩
  | 10 => ⟨S4x32x32x7, .f32⟩
  | 11 => ⟨S4x7168, .f32⟩
  | 12 => ⟨S4x7x32x32, .f32⟩
  | 13 => ⟨S4x32x32x7, .f32⟩
  | 14 => ⟨S4x7168, .f32⟩
  | 15 => ⟨S4x32x32x14, .f32⟩
  | 16 => ⟨S4x7168x2, .f32⟩
  | 17 => ⟨S4x32x32x14, .f32⟩
  | 18 => ⟨S4x7168x2, .f32⟩
  | 19 => ⟨S32, .f32⟩
  | 20 => ⟨S_, .f32⟩
  | 21 => ⟨S32, .f32⟩
  | 22 => ⟨S32, .f32⟩
  | 23 => ⟨S32, .f32⟩
  | 24 => ⟨S_, .f32⟩
  | 25 => ⟨S32, .f32⟩
  | 26 => ⟨S32, .f32⟩
  | 27 => ⟨S32x32, .f32⟩
  | 28 => ⟨S32x32, .f32⟩
  | 29 => ⟨S1024, .f32⟩
  | 30 => ⟨S1024, .f32⟩
  | 31 => ⟨S1024x1x1, .f32⟩
  | 32 => ⟨S1024x7x2, .f32⟩
  | 33 => ⟨S1024x7x2, .f32⟩
  | 34 => ⟨S1024x7x2, .f32⟩
  | 35 => ⟨S1x7168x2, .f32⟩
  | 36 => ⟨S4x7168x2, .f32⟩
  | 37 => ⟨S1024x1x1, .f32⟩
  | 38 => ⟨S1024x7x2, .f32⟩
  | 39 => ⟨S1024x7x2, .f32⟩
  | 40 => ⟨S1024x7x2, .f32⟩
  | 41 => ⟨S1x7168x2, .f32⟩
  | 42 => ⟨S4x7168x2, .f32⟩
  | 43 => ⟨S4x7168x1, .f32⟩
  | 44 => ⟨S4x7168, .f32⟩
  | 45 => ⟨S4x7168x1, .f32⟩
  | 46 => ⟨S4x7168, .f32⟩
  | 47 => ⟨S4x7168, .f32⟩
  | 48 => ⟨S_, .f32⟩
  | 49 => ⟨S4x7168, .f32⟩
  | 50 => ⟨S4x7168, .f32⟩
  | 51 => ⟨S4x7168x1, .f32⟩
  | 52 => ⟨S4x7168, .f32⟩
  | 53 => ⟨S_, .f32⟩
  | 54 => ⟨S4x7168, .f32⟩
  | 55 => ⟨S4x7168, .f32⟩
  | 56 => ⟨S4x7168, .f32⟩
  | 57 => ⟨S4x7168x1, .f32⟩
  | 58 => ⟨S4x7168, .f32⟩
  | 59 => ⟨S4x7168x1, .f32⟩
  | 60 => ⟨S4x7168, .f32⟩
  | 61 => ⟨S_, .f32⟩
  | 62 => ⟨S_, .f32⟩
  | 63 => ⟨S_, .f32⟩
  | 64 => ⟨S4x7168, .f32⟩
  | 65 => ⟨S4x7168, .f32⟩
  | 66 => ⟨S_, .f32⟩
  | 67 => ⟨S4x7168, .f32⟩
  | 68 => ⟨S4x7168, .f32⟩
  | 69 => ⟨S4x7168, .f32⟩
  | 70 => ⟨S4x7168, .f32⟩
  | 71 => ⟨S4x7168, .f32⟩
  | 72 => ⟨S4x7168, .f32⟩
  | 73 => ⟨S_, .f32⟩
  | 74 => ⟨S4x7168, .f32⟩
  | 75 => ⟨S4x7168, .f32⟩
  | 76 => ⟨S_, .f32⟩
  | 77 => ⟨S4x7168, .f32⟩
  | 78 => ⟨S4x7168, .f32⟩
  | 79 => ⟨S4x7168, .f32⟩
  | 80 => ⟨S_, .f32⟩
  | 81 => ⟨S4x7168, .f32⟩
  | 82 => ⟨S4x7168, .f32⟩
  | 83 => ⟨S_, .f32⟩
  | 84 => ⟨S4x7168, .f32⟩
  | 85 => ⟨S4x7168, .f32⟩
  | 86 => ⟨S4x7168, .f32⟩
  | 87 => ⟨S4x7168x1, .f32⟩
  | 88 => ⟨S4x7168x1, .f32⟩
  | 89 => ⟨S4x7168x2, .f32⟩
  | 90 => ⟨S4x7168x1, .f32⟩
  | 91 => ⟨S4x7168, .f32⟩
  | 92 => ⟨S4x7168x1, .f32⟩
  | 93 => ⟨S4x7168, .f32⟩
  | 94 => ⟨S4x7168, .f32⟩
  | 95 => ⟨S_, .f32⟩
  | 96 => ⟨S4x7168, .f32⟩
  | 97 => ⟨S4x7168, .f32⟩
  | 98 => ⟨S4x7168x1, .f32⟩
  | 99 => ⟨S4x7168, .f32⟩
  | 100 => ⟨S_, .f32⟩
  | 101 => ⟨S4x7168, .f32⟩
  | 102 => ⟨S4x7168, .f32⟩
  | 103 => ⟨S4x7168, .f32⟩
  | 104 => ⟨S4x7168x1, .f32⟩
  | 105 => ⟨S4x7168, .f32⟩
  | 106 => ⟨S4x7168x1, .f32⟩
  | 107 => ⟨S4x7168, .f32⟩
  | 108 => ⟨S_, .f32⟩
  | 109 => ⟨S_, .f32⟩
  | 110 => ⟨S_, .f32⟩
  | 111 => ⟨S4x7168, .f32⟩
  | 112 => ⟨S4x7168, .f32⟩
  | 113 => ⟨S_, .f32⟩
  | 114 => ⟨S4x7168, .f32⟩
  | 115 => ⟨S4x7168, .f32⟩
  | 116 => ⟨S4x7168, .f32⟩
  | 117 => ⟨S4x7168, .f32⟩
  | 118 => ⟨S4x7168, .f32⟩
  | 119 => ⟨S4x7168, .f32⟩
  | 120 => ⟨S_, .f32⟩
  | 121 => ⟨S4x7168, .f32⟩
  | 122 => ⟨S4x7168, .f32⟩
  | 123 => ⟨S_, .f32⟩
  | 124 => ⟨S4x7168, .f32⟩
  | 125 => ⟨S4x7168, .f32⟩
  | 126 => ⟨S4x7168, .f32⟩
  | 127 => ⟨S_, .f32⟩
  | _ => ⟨S4x14x32x32, .f32⟩

abbrev hbmTy0_1 (i : Nat) : BufTy := match i % 128 with
  | 0 => ⟨S4x7168, .f32⟩
  | 1 => ⟨S4x7168, .f32⟩
  | 2 => ⟨S_, .f32⟩
  | 3 => ⟨S4x7168, .f32⟩
  | 4 => ⟨S4x7168, .f32⟩
  | 5 => ⟨S4x7168, .f32⟩
  | 6 => ⟨S4x7168x1, .f32⟩
  | 7 => ⟨S4x7168x1, .f32⟩
  | 8 => ⟨S4x7168x2, .f32⟩
  | 9 => ⟨S4x2000, .f32⟩
  | 10 => ⟨S4x2000, .i32⟩
  | 11 => ⟨S_, .i32⟩
  | 12 => ⟨S_, .i32⟩
  | 13 => ⟨S4x2000, .i32⟩
  | 14 => ⟨S4x2000, .i32⟩
  | 15 => ⟨S4x2000, .i32⟩
  | 16 => ⟨S_, .i32⟩
  | 17 => ⟨S4x2000, .i32⟩
  | 18 => ⟨S4x2000, .i1⟩
  | 19 => ⟨S4x2000, .i32⟩
  | 20 => ⟨S4x2000, .i32⟩
  | 21 => ⟨S_, .i32⟩
  | 22 => ⟨S4x2000, .i32⟩
  | 23 => ⟨S4x2000, .i1⟩
  | 24 => ⟨S4x2000, .i1⟩
  | 25 => ⟨S_, .i32⟩
  | 26 => ⟨S4x2000, .i32⟩
  | 27 => ⟨S4x2000, .i32⟩
  | 28 => ⟨S4x2000, .i32⟩
  | 29 => ⟨S4x2000x1, .i32⟩
  | 30 => ⟨S_, .i32⟩
  | 31 => ⟨S4x2000x1, .i32⟩
  | 32 => ⟨S4x2000x1, .i1⟩
  | 33 => ⟨S_, .i32⟩
  | 34 => ⟨S4x2000x1, .i32⟩
  | 35 => ⟨S4x2000x1, .i32⟩
  | 36 => ⟨S4x2000x1, .i32⟩
  | 37 => ⟨S1, .i32⟩
  | 38 => ⟨S_, .i32⟩
  | 39 => ⟨S4x2000x1, .i32⟩
  | 40 => ⟨S4x2000x1, .i1⟩
  | 41 => ⟨S1x1x1, .i32⟩
  | 42 => ⟨S4x2000x1, .i32⟩
  | 43 => ⟨S4x2000x1, .i1⟩
  | 44 => ⟨S4x2000x1, .i1⟩
  | 45 => ⟨S_, .i1⟩
  | 46 => ⟨S4x2000, .i1⟩
  | 47 => ⟨S4x2000x2, .f32⟩
  | 48 => ⟨S4x2000x2, .i1⟩
  | 49 => ⟨S_, .f32⟩
  | 50 => ⟨S4x2000x2, .f32⟩
  | 51 => ⟨S4x2000x2, .f32⟩
  | 52 => ⟨S4x1024x7, .f32⟩
  | 53 => ⟨S4x1024x7x2, .f32⟩
  | 54 => ⟨S4x1024x3, .f32⟩
  | 55 => ⟨S4x1024x3, .i32⟩
  | 56 => ⟨S4x1024x3x1, .i32⟩
  | 57 => ⟨S_, .i32⟩
  | 58 => ⟨S4x1024x3x1, .i32⟩
  | 59 => ⟨S4x1024x3x1, .i1⟩
  | 60 => ⟨S_, .i32⟩
  | 61 => ⟨S4x1024x3x1, .i32⟩
  | 62 => ⟨S4x1024x3x1, .i32⟩
  | 63 => ⟨S4x1024x3x1, .i32⟩
  | 64 => ⟨S1, .i32⟩
  | 65 => ⟨S_, .i32⟩
  | 66 => ⟨S4x1024x3x1, .i32⟩
  | 67 => ⟨S4x1024x3x1, .i1⟩
  | 68 => ⟨S1x1x1x1, .i32⟩
  | 69 => ⟨S4x1024x3x1, .i32⟩
  | 70 => ⟨S4x1024x3x1, .i1⟩
  | 71 => ⟨S4x1024x3x1, .i1⟩
  | 72 => ⟨S_, .i1⟩
  | 73 => ⟨S4x1024x3, .i1⟩
  | 74 => ⟨S4x1024x3x2, .f32⟩
  | 75 => ⟨S4x1024x3x2, .i1⟩
  | 76 => ⟨S_, .f32⟩
  | 77 => ⟨S4x1024x3x2, .f32⟩
  | 78 => ⟨S4x1024x3x2, .f32⟩
  | 79 => ⟨S4x2000x1, .i32⟩
  | 80 => ⟨S4x2000x3, .i32⟩
  | 81 => ⟨S_, .i32⟩
  | 82 => ⟨S4x2000x3, .i32⟩
  | 83 => ⟨S4x2000x3, .i1⟩
  | 84 => ⟨S_, .i32⟩
  | 85 => ⟨S4x2000x3, .i32⟩
  | 86 => ⟨S4x2000x3, .i32⟩
  | 87 => ⟨S4x2000x3, .i32⟩
  | 88 => ⟨S4x2000x3x1, .i32⟩
  | 89 => ⟨S1, .i32⟩
  | 90 => ⟨S_, .i32⟩
  | 91 => ⟨S4x2000x3x1, .i32⟩
  | 92 => ⟨S4x2000x3x1, .i1⟩
  | 93 => ⟨S1x1x1x1, .i32⟩
  | 94 => ⟨S4x2000x3x1, .i32⟩
  | 95 => ⟨S4x2000x3x1, .i1⟩
  | 96 => ⟨S4x2000x3x1, .i1⟩
  | 97 => ⟨S_, .i1⟩
  | 98 => ⟨S4x2000x3, .i1⟩
  | 99 => ⟨S4x2000x3, .f32⟩
  | 100 => ⟨S_, .f32⟩
  | 101 => ⟨S4x2000x3, .f32⟩
  | 102 => ⟨S4x2000x3, .f32⟩
  | 103 => ⟨S4x2000x1x1, .i32⟩
  | 104 => ⟨S4x2000x3x2, .i32⟩
  | 105 => ⟨S_, .i32⟩
  | 106 => ⟨S4x2000x3x2, .i32⟩
  | 107 => ⟨S4x2000x3x2, .i1⟩
  | 108 => ⟨S_, .i32⟩
  | 109 => ⟨S4x2000x3x2, .i32⟩
  | 110 => ⟨S4x2000x3x2, .i32⟩
  | 111 => ⟨S4x2000x3x2, .i32⟩
  | 112 => ⟨S4x2000x3x2x1, .i32⟩
  | 113 => ⟨S1, .i32⟩
  | 114 => ⟨S_, .i32⟩
  | 115 => ⟨S4x2000x3x2x1, .i32⟩
  | 116 => ⟨S4x2000x3x2x1, .i1⟩
  | 117 => ⟨S1x1x1x1x1, .i32⟩
  | 118 => ⟨S4x2000x3x2x1, .i32⟩
  | 119 => ⟨S4x2000x3x2x1, .i1⟩
  | 120 => ⟨S4x2000x3x2x1, .i1⟩
  | 121 => ⟨S_, .i1⟩
  | 122 => ⟨S4x2000x3x2, .i1⟩
  | 123 => ⟨S4x2000x3x2, .f32⟩
  | 124 => ⟨S_, .f32⟩
  | 125 => ⟨S4x2000x3x2, .f32⟩
  | 126 => ⟨S4x2000x3x2, .f32⟩
  | 127 => ⟨S4x2000x1x2, .f32⟩
  | _ => ⟨S4x14x32x32, .f32⟩

abbrev hbmTy0_2 (i : Nat) : BufTy := match i % 128 with
  | 0 => ⟨S4x2000x3x2, .f32⟩
  | 1 => ⟨S4x2000x3x1, .f32⟩
  | 2 => ⟨S4x2000x3, .f32⟩
  | 3 => ⟨S4x2000x3x1, .f32⟩
  | 4 => ⟨S4x2000x3, .f32⟩
  | 5 => ⟨S4x2000x3x1, .f32⟩
  | 6 => ⟨S4x2000x3, .f32⟩
  | 7 => ⟨S4x2000x3x1, .f32⟩
  | 8 => ⟨S4x2000x3, .f32⟩
  | 9 => ⟨S4x2000x3x1, .f32⟩
  | 10 => ⟨S4x2000x3x1, .f32⟩
  | 11 => ⟨S4x2000x3x1, .f32⟩
  | 12 => ⟨S4x2000x3x1, .f32⟩
  | 13 => ⟨S4x2000x3x4, .f32⟩
  | 14 => ⟨S4x2000x1, .f32⟩
  | 15 => ⟨S4x2000x3, .f32⟩
  | 16 => ⟨S4x2000x3, .f32⟩
  | 17 => ⟨S4x6000x4, .f32⟩
  | 18 => ⟨S4x6000, .f32⟩
  | 19 => ⟨S4x2000, .f32⟩
  | 20 => ⟨S4x2000, .i32⟩
  | 21 => ⟨S_, .i32⟩
  | 22 => ⟨S_, .i32⟩
  | 23 => ⟨S4x2000, .i32⟩
  | 24 => ⟨S4x2000, .i32⟩
  | 25 => ⟨S4x2000, .i32⟩
  | 26 => ⟨S_, .i32⟩
  | 27 => ⟨S4x2000, .i32⟩
  | 28 => ⟨S4x2000, .i1⟩
  | 29 => ⟨S4x2000, .i32⟩
  | 30 => ⟨S4x2000, .i32⟩
  | 31 => ⟨S_, .i32⟩
  | 32 => ⟨S4x2000, .i32⟩
  | 33 => ⟨S4x2000, .i1⟩
  | 34 => ⟨S4x2000, .i1⟩
  | 35 => ⟨S_, .i32⟩
  | 36 => ⟨S4x2000, .i32⟩
  | 37 => ⟨S4x2000, .i32⟩
  | 38 => ⟨S4x2000, .i32⟩
  | 39 => ⟨S4x2000x1, .i32⟩
  | 40 => ⟨S_, .i32⟩
  | 41 => ⟨S4x2000x1, .i32⟩
  | 42 => ⟨S4x2000x1, .i1⟩
  | 43 => ⟨S_, .i32⟩
  | 44 => ⟨S4x2000x1, .i32⟩
  | 45 => ⟨S4x2000x1, .i32⟩
  | 46 => ⟨S4x2000x1, .i32⟩
  | 47 => ⟨S1, .i32⟩
  | 48 => ⟨S_, .i32⟩
  | 49 => ⟨S4x2000x1, .i32⟩
  | 50 => ⟨S4x2000x1, .i1⟩
  | 51 => ⟨S1x1x1, .i32⟩
  | 52 => ⟨S4x2000x1, .i32⟩
  | 53 => ⟨S4x2000x1, .i1⟩
  | 54 => ⟨S4x2000x1, .i1⟩
  | 55 => ⟨S_, .i1⟩
  | 56 => ⟨S4x2000, .i1⟩
  | 57 => ⟨S4x2000x2, .f32⟩
  | 58 => ⟨S4x2000x2, .i1⟩
  | 59 => ⟨S_, .f32⟩
  | 60 => ⟨S4x2000x2, .f32⟩
  | 61 => ⟨S4x2000x2, .f32⟩
  | 62 => ⟨S4x1024x7, .f32⟩
  | 63 => ⟨S4x1024x7x2, .f32⟩
  | 64 => ⟨S4x1024x3, .f32⟩
  | 65 => ⟨S4x1024x3, .i32⟩
  | 66 => ⟨S4x1024x3x1, .i32⟩
  | 67 => ⟨S_, .i32⟩
  | 68 => ⟨S4x1024x3x1, .i32⟩
  | 69 => ⟨S4x1024x3x1, .i1⟩
  | 70 => ⟨S_, .i32⟩
  | 71 => ⟨S4x1024x3x1, .i32⟩
  | 72 => ⟨S4x1024x3x1, .i32⟩
  | 73 => ⟨S4x1024x3x1, .i32⟩
  | 74 => ⟨S1, .i32⟩
  | 75 => ⟨S_, .i32⟩
  | 76 => ⟨S4x1024x3x1, .i32⟩
  | 77 => ⟨S4x1024x3x1, .i1⟩
  | 78 => ⟨S1x1x1x1, .i32⟩
  | 79 => ⟨S4x1024x3x1, .i32⟩
  | 80 => ⟨S4x1024x3x1, .i1⟩
  | 81 => ⟨S4x1024x3x1, .i1⟩
  | 82 => ⟨S_, .i1⟩
  | 83 => ⟨S4x1024x3, .i1⟩
  | 84 => ⟨S4x1024x3x2, .f32⟩
  | 85 => ⟨S4x1024x3x2, .i1⟩
  | 86 => ⟨S_, .f32⟩
  | 87 => ⟨S4x1024x3x2, .f32⟩
  | 88 => ⟨S4x1024x3x2, .f32⟩
  | 89 => ⟨S4x2000x1, .i32⟩
  | 90 => ⟨S4x2000x3, .i32⟩
  | 91 => ⟨S_, .i32⟩
  | 92 => ⟨S4x2000x3, .i32⟩
  | 93 => ⟨S4x2000x3, .i1⟩
  | 94 => ⟨S_, .i32⟩
  | 95 => ⟨S4x2000x3, .i32⟩
  | 96 => ⟨S4x2000x3, .i32⟩
  | 97 => ⟨S4x2000x3, .i32⟩
  | 98 => ⟨S4x2000x3x1, .i32⟩
  | 99 => ⟨S1, .i32⟩
  | 100 => ⟨S_, .i32⟩
  | 101 => ⟨S4x2000x3x1, .i32⟩
  | 102 => ⟨S4x2000x3x1, .i1⟩
  | 103 => ⟨S1x1x1x1, .i32⟩
  | 104 => ⟨S4x2000x3x1, .i32⟩
  | 105 => ⟨S4x2000x3x1, .i1⟩
  | 106 => ⟨S4x2000x3x1, .i1⟩
  | 107 => ⟨S_, .i1⟩
  | 108 => ⟨S4x2000x3, .i1⟩
  | 109 => ⟨S4x2000x3, .f32⟩
  | 110 => ⟨S_, .f32⟩
  | 111 => ⟨S4x2000x3, .f32⟩
  | 112 => ⟨S4x2000x3, .f32⟩
  | 113 => ⟨S4x2000x1x1, .i32⟩
  | 114 => ⟨S4x2000x3x2, .i32⟩
  | 115 => ⟨S_, .i32⟩
  | 116 => ⟨S4x2000x3x2, .i32⟩
  | 117 => ⟨S4x2000x3x2, .i1⟩
  | 118 => ⟨S_, .i32⟩
  | 119 => ⟨S4x2000x3x2, .i32⟩
  | 120 => ⟨S4x2000x3x2, .i32⟩
  | 121 => ⟨S4x2000x3x2, .i32⟩
  | 122 => ⟨S4x2000x3x2x1, .i32⟩
  | 123 => ⟨S1, .i32⟩
  | 124 => ⟨S_, .i32⟩
  | 125 => ⟨S4x2000x3x2x1, .i32⟩
  | 126 => ⟨S4x2000x3x2x1, .i1⟩
  | 127 => ⟨S1x1x1x1x1, .i32⟩
  | _ => ⟨S4x14x32x32, .f32⟩

abbrev hbmTy0_3 (i : Nat) : BufTy := match i % 128 with
  | 0 => ⟨S4x2000x3x2x1, .i32⟩
  | 1 => ⟨S4x2000x3x2x1, .i1⟩
  | 2 => ⟨S4x2000x3x2x1, .i1⟩
  | 3 => ⟨S_, .i1⟩
  | 4 => ⟨S4x2000x3x2, .i1⟩
  | 5 => ⟨S4x2000x3x2, .f32⟩
  | 6 => ⟨S_, .f32⟩
  | 7 => ⟨S4x2000x3x2, .f32⟩
  | 8 => ⟨S4x2000x3x2, .f32⟩
  | 9 => ⟨S4x2000x1x2, .f32⟩
  | 10 => ⟨S4x2000x3x2, .f32⟩
  | 11 => ⟨S4x2000x3x1, .f32⟩
  | 12 => ⟨S4x2000x3, .f32⟩
  | 13 => ⟨S4x2000x3x1, .f32⟩
  | 14 => ⟨S4x2000x3, .f32⟩
  | 15 => ⟨S4x2000x3x1, .f32⟩
  | 16 => ⟨S4x2000x3, .f32⟩
  | 17 => ⟨S4x2000x3x1, .f32⟩
  | 18 => ⟨S4x2000x3, .f32⟩
  | 19 => ⟨S4x2000x3x1, .f32⟩
  | 20 => ⟨S4x2000x3x1, .f32⟩
  | 21 => ⟨S4x2000x3x1, .f32⟩
  | 22 => ⟨S4x2000x3x1, .f32⟩
  | 23 => ⟨S4x2000x3x4, .f32⟩
  | 24 => ⟨S4x2000x1, .f32⟩
  | 25 => ⟨S4x2000x3, .f32⟩
  | 26 => ⟨S4x2000x3, .f32⟩
  | 27 => ⟨S4x6000x4, .f32⟩
  | 28 => ⟨S4x6000, .f32⟩
  | 29 => ⟨S4x12000x4, .f32⟩
  | 30 => ⟨S4x12000, .f32⟩
  | 31 => ⟨S4x1, .f32⟩
  | 32 => ⟨S4, .f32⟩
  | 33 => ⟨S4x1, .f32⟩
  | 34 => ⟨S4x1, .f32⟩
  | 35 => ⟨S4, .f32⟩
  | 36 => ⟨S4x1, .f32⟩
  | 37 => ⟨S4x12000x1, .f32⟩
  | 38 => ⟨S4x12000, .f32⟩
  | 39 => ⟨S_, .f32⟩
  | 40 => ⟨S4x1, .f32⟩
  | 41 => ⟨S4x1, .f32⟩
  | 42 => ⟨S_, .f32⟩
  | 43 => ⟨S_, .f32⟩
  | 44 => ⟨S4x12000, .f32⟩
  | 45 => ⟨S4x12000, .f32⟩
  | 46 => ⟨S4x12000, .f32⟩
  | 47 => ⟨S4x12000, .f32⟩
  | 48 => ⟨S4x12000x1, .f32⟩
  | 49 => ⟨S4x12000, .f32⟩
  | 50 => ⟨S_, .f32⟩
  | 51 => ⟨S4x1, .f32⟩
  | 52 => ⟨S4x1, .f32⟩
  | 53 => ⟨S_, .f32⟩
  | 54 => ⟨S_, .f32⟩
  | 55 => ⟨S4x12000, .f32⟩
  | 56 => ⟨S4x12000, .f32⟩
  | 57 => ⟨S4x12000, .f32⟩
  | 58 => ⟨S4x12000, .f32⟩
  | 59 => ⟨S4x12000x1, .f32⟩
  | 60 => ⟨S4x12000, .f32⟩
  | 61 => ⟨S_, .f32⟩
  | 62 => ⟨S4x1, .f32⟩
  | 63 => ⟨S4x1, .f32⟩
  | 64 => ⟨S_, .f32⟩
  | 65 => ⟨S_, .f32⟩
  | 66 => ⟨S4x12000, .f32⟩
  | 67 => ⟨S4x12000, .f32⟩
  | 68 => ⟨S4x12000, .f32⟩
  | 69 => ⟨S4x12000, .f32⟩
  | 70 => ⟨S4x12000x1, .f32⟩
  | 71 => ⟨S4x12000, .f32⟩
  | 72 => ⟨S_, .f32⟩
  | 73 => ⟨S4x1, .f32⟩
  | 74 => ⟨S4x1, .f32⟩
  | 75 => ⟨S_, .f32⟩
  | 76 => ⟨S_, .f32⟩
  | 77 => ⟨S4x12000, .f32⟩
  | 78 => ⟨S4x12000, .f32⟩
  | 79 => ⟨S4x12000, .f32⟩
  | 80 => ⟨S4x12000, .f32⟩
  | 81 => ⟨S4x12000x1, .f32⟩
  | 82 => ⟨S4x12000x1, .f32⟩
  | 83 => ⟨S4x12000x1, .f32⟩
  | 84 => ⟨S4x12000x1, .f32⟩
  | 85 => ⟨S4x12000x4, .f32⟩
  | 86 => ⟨S4x6000, .f32⟩
  | 87 => ⟨S4x6000, .i32⟩
  | 88 => ⟨S4x6000x1, .i32⟩
  | 89 => ⟨S_, .i32⟩
  | 90 => ⟨S4x6000x1, .i32⟩
  | 91 => ⟨S4x6000x1, .i1⟩
  | 92 => ⟨S_, .i32⟩
  | 93 => ⟨S4x6000x1, .i32⟩
  | 94 => ⟨S4x6000x1, .i32⟩
  | 95 => ⟨S4x6000x1, .i32⟩
  | 96 => ⟨S1, .i32⟩
  | 97 => ⟨S_, .i32⟩
  | 98 => ⟨S4x6000x1, .i32⟩
  | 99 => ⟨S4x6000x1, .i1⟩
  | 100 => ⟨S1x1x1, .i32⟩
  | 101 => ⟨S4x6000x1, .i32⟩
  | 102 => ⟨S4x6000x1, .i1⟩
  | 103 => ⟨S4x6000x1, .i1⟩
  | 104 => ⟨S_, .i1⟩
  | 105 => ⟨S4x6000, .i1⟩
  | 106 => ⟨S4x6000x4, .f32⟩
  | 107 => ⟨S4x6000x4, .i1⟩
  | 108 => ⟨S_, .f32⟩
  | 109 => ⟨S4x6000x4, .f32⟩
  | 110 => ⟨S4x6000x4, .f32⟩
  | 111 => ⟨S4x6000x1, .f32⟩
  | 112 => ⟨S4x6000, .f32⟩
  | 113 => ⟨S4x6000x1, .f32⟩
  | 114 => ⟨S4x6000, .f32⟩
  | 115 => ⟨S4x6000x1, .f32⟩
  | 116 => ⟨S4x6000, .f32⟩
  | 117 => ⟨S4x6000x1, .f32⟩
  | 118 => ⟨S4x6000, .f32⟩
  | 119 => ⟨S4x6000, .f32⟩
  | 120 => ⟨S_, .f32⟩
  | 121 => ⟨S4x6000, .f32⟩
  | 122 => ⟨S4x6000, .f32⟩
  | 123 => ⟨S4x6000, .f32⟩
  | 124 => ⟨S_, .f32⟩
  | 125 => ⟨S4x6000, .f32⟩
  | 126 => ⟨S4x6000, .f32⟩
  | 127 => ⟨S4x6000, .f32⟩
  | _ => ⟨S4x14x32x32, .f32⟩

abbrev hbmTy0_4 (i : Nat) : BufTy := match i % 128 with
  | 0 => ⟨S6000, .i32⟩
  | 1 => ⟨S_, .i1⟩
  | 2 => ⟨S4x6000, .i1⟩
  | 3 => ⟨S_, .i32⟩
  | 4 => ⟨S_, .i32⟩
  | 5 => ⟨S4x6000, .f32⟩
  | 6 => ⟨S4x6000, .f32⟩
  | 7 => ⟨S4x6000, .f32⟩
  | 8 => ⟨S4x6000, .f32⟩
  | 9 => ⟨S4x6000, .f32⟩
  | 10 => ⟨S6000, .i32⟩
  | 11 => ⟨S_, .i32⟩
  | 12 => ⟨S_, .i32⟩
  | 13 => ⟨S4x6000, .i1⟩
  | 14 => ⟨S_, .i32⟩
  | 15 => ⟨S_, .i1⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S4x1, .f32⟩
  | 26 => ⟨S4x6000, .f32⟩
  | 27 => ⟨S4x6000, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S4x1, .f32⟩
  | 36 => ⟨S4x6000, .f32⟩
  | 37 => ⟨S4x6000, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S4x1, .f32⟩
  | 46 => ⟨S4x6000, .f32⟩
  | 47 => ⟨S4x6000, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S4x1, .f32⟩
  | 56 => ⟨S4x6000, .f32⟩
  | 57 => ⟨S4x6000, .f32⟩
  | 58 => ⟨S4x6000, .f32⟩
  | 59 => ⟨S_, .f32⟩
  | 60 => ⟨S4x6000, .f32⟩
  | 61 => ⟨S4x6000, .f32⟩
  | 62 => ⟨S_, .f32⟩
  | 63 => ⟨S4x6000, .f32⟩
  | 64 => ⟨S4x6000, .f32⟩
  | 65 => ⟨S4x6000, .f32⟩
  | 66 => ⟨S_, .f32⟩
  | 67 => ⟨S4x6000, .f32⟩
  | 68 => ⟨S4x6000, .f32⟩
  | 69 => ⟨S_, .f32⟩
  | 70 => ⟨S4x6000, .f32⟩
  | 71 => ⟨S4x6000, .f32⟩
  | 72 => ⟨S4x6000, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S4x1, .f32⟩
  | 81 => ⟨S4x6000, .f32⟩
  | 82 => ⟨S4x6000, .f32⟩
  | 83 => ⟨S4x6000, .f32⟩
  | 84 => ⟨S4x6000, .f32⟩
  | 85 => ⟨S_, .f32⟩
  | 86 => ⟨S4x6000, .f32⟩
  | 87 => ⟨S4x6000, .i1⟩
  | 88 => ⟨S_, .i32⟩
  | 89 => ⟨S6000, .i32⟩
  | 90 => ⟨S6000, .i1⟩
  | 91 => ⟨S1x6000, .i1⟩
  | 92 => ⟨S4x6000, .i1⟩
  | 93 => ⟨S4x6000, .i1⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S4x1, .i1⟩
  | 102 => ⟨S4x6000, .i1⟩
  | 103 => ⟨S4x6000, .i1⟩
  | 104 => ⟨S4x6000, .i1⟩
  | 105 => ⟨S4x6000, .i1⟩
  | 106 => ⟨S_, .i32⟩
  | 107 => ⟨S_, .i32⟩
  | 108 => ⟨S4x6000, .i1⟩
  | 109 => ⟨S4x6000, .i32⟩
  | 110 => ⟨S4x6000, .i1⟩
  | 111 => ⟨S4x6000, .i32⟩
  | 112 => ⟨S4x300, .i32⟩
  | 113 => ⟨S_, .i32⟩
  | 114 => ⟨S4x300, .i32⟩
  | 115 => ⟨S4x300, .i1⟩
  | 116 => ⟨S_, .i32⟩
  | 117 => ⟨S4x300, .i32⟩
  | 118 => ⟨S4x300, .i32⟩
  | 119 => ⟨S4x300, .i32⟩
  | 120 => ⟨S4x300x1, .i32⟩
  | 121 => ⟨S1, .i32⟩
  | 122 => ⟨S_, .i32⟩
  | 123 => ⟨S4x300x1, .i32⟩
  | 124 => ⟨S4x300x1, .i1⟩
  | 125 => ⟨S1x1x1, .i32⟩
  | 126 => ⟨S4x300x1, .i32⟩
  | 127 => ⟨S4x300x1, .i1⟩
  | _ => ⟨S4x14x32x32, .f32⟩

abbrev hbmTy0_5 (i : Nat) : BufTy := match i % 128 with
  | 0 => ⟨S4x300x1, .i1⟩
  | 1 => ⟨S_, .i1⟩
  | 2 => ⟨S4x300, .i1⟩
  | 3 => ⟨S4x300, .i1⟩
  | 4 => ⟨S_, .i1⟩
  | 5 => ⟨S4x300, .i1⟩
  | 6 => ⟨S4x300, .i1⟩
  | 7 => ⟨S4x300, .f32⟩
  | 8 => ⟨S4x300x1, .i32⟩
  | 9 => ⟨S_, .i32⟩
  | 10 => ⟨S4x300x1, .i32⟩
  | 11 => ⟨S4x300x1, .i1⟩
  | 12 => ⟨S_, .i32⟩
  | 13 => ⟨S4x300x1, .i32⟩
  | 14 => ⟨S4x300x1, .i32⟩
  | 15 => ⟨S4x300x1, .i32⟩
  | 16 => ⟨S1, .i32⟩
  | 17 => ⟨S_, .i32⟩
  | 18 => ⟨S4x300x1, .i32⟩
  | 19 => ⟨S4x300x1, .i1⟩
  | 20 => ⟨S1x1x1, .i32⟩
  | 21 => ⟨S4x300x1, .i32⟩
  | 22 => ⟨S4x300x1, .i1⟩
  | 23 => ⟨S4x300x1, .i1⟩
  | 24 => ⟨S_, .i1⟩
  | 25 => ⟨S4x300, .i1⟩
  | 26 => ⟨S4x300x4, .f32⟩
  | 27 => ⟨S4x300x4, .i1⟩
  | 28 => ⟨S_, .f32⟩
  | 29 => ⟨S4x300x4, .f32⟩
  | 30 => ⟨S4x300x4, .f32⟩
  | 31 => ⟨S4x300x1, .f32⟩
  | 32 => ⟨S4x300x4, .f32⟩
  | 33 => ⟨S4x300x4, .f32⟩
  | 34 => ⟨S4, .f32⟩
  | 35 => ⟨S4x1x1, .f32⟩
  | 36 => ⟨S4x300x1, .f32⟩
  | 37 => ⟨S4x300x5, .f32⟩
  | _ => ⟨S4x14x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x14x32x32, .f32⟩

abbrev bufTy : (tb : Table) → Fin (tcTables nBuf tb) → BufTy
  | .hbm, ⟨i, _⟩ => hbmTy i
  | _, _ => ⟨S4x14x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_cst_14 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_15 : Ref sig .tc := ⟨.hbm, 120, rfl⟩
abbrev main_v89 : Ref sig .tc := ⟨.hbm, 121, rfl⟩
abbrev main_v90 : Ref sig .tc := ⟨.hbm, 122, rfl⟩
abbrev main_cst_16 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_17 : Ref sig .tc := ⟨.hbm, 127, rfl⟩
abbrev main_v94 : Ref sig .tc := ⟨.hbm, 128, rfl⟩
abbrev main_v95 : Ref sig .tc := ⟨.hbm, 129, rfl⟩
abbrev main_cst_18 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_values : Ref sig .tc := ⟨.hbm, 137, rfl⟩
abbrev main_indices : Ref sig .tc := ⟨.hbm, 138, rfl⟩
abbrev main_c : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_v8 : Ref sig .tc := ⟨.hbm, 148, rfl⟩
abbrev main_call2_c : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_c_0 : Ref sig .tc := ⟨.hbm, 153, rfl⟩
abbrev main_call2_v12 : Ref sig .tc := ⟨.hbm, 154, rfl⟩
abbrev main_call2_v13 : Ref sig .tc := ⟨.hbm, 155, rfl⟩
abbrev main_v102 : Ref sig .tc := ⟨.hbm, 156, rfl⟩
abbrev main_v103 : Ref sig .tc := ⟨.hbm, 157, rfl⟩
abbrev main_call3_c : Ref sig .tc := ⟨.hbm, 158, rfl⟩
abbrev main_call3_v0 : Ref sig .tc := ⟨.hbm, 159, rfl⟩
abbrev main_call3_v1 : Ref sig .tc := ⟨.hbm, 160, rfl⟩
abbrev main_call3_c_0 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_c_1 : Ref sig .tc := ⟨.hbm, 165, rfl⟩
abbrev main_call3_c_2 : Ref sig .tc := ⟨.hbm, 166, rfl⟩
abbrev main_call3_v5 : Ref sig .tc := ⟨.hbm, 167, rfl⟩
abbrev main_call3_v6 : Ref sig .tc := ⟨.hbm, 168, rfl⟩
abbrev main_call3_v7 : Ref sig .tc := ⟨.hbm, 169, rfl⟩
abbrev main_call3_v8 : Ref sig .tc := ⟨.hbm, 170, rfl⟩
abbrev main_call3_v9 : Ref sig .tc := ⟨.hbm, 171, rfl⟩
abbrev main_call3_v10 : Ref sig .tc := ⟨.hbm, 172, rfl⟩
abbrev main_call3_c_3 : Ref sig .tc := ⟨.hbm, 173, rfl⟩
abbrev main_call3_v11 : Ref sig .tc := ⟨.hbm, 174, rfl⟩
abbrev main_call3_v12 : Ref sig .tc := ⟨.hbm, 175, rfl⟩
abbrev main_call3_v13 : Ref sig .tc := ⟨.hbm, 176, rfl⟩
abbrev main_call3_cst : Ref sig .tc := ⟨.hbm, 177, rfl⟩
abbrev main_call3_v14 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_values_19 : Ref sig .tc := ⟨.hbm, 182, rfl⟩
abbrev main_indices_20 : Ref sig .tc := ⟨.hbm, 183, rfl⟩
abbrev main_v107 : Ref sig .tc := ⟨.hbm, 184, rfl⟩
abbrev main_call4_c : Ref sig .tc := ⟨.hbm, 185, rfl⟩
abbrev main_call4_v0 : Ref sig .tc := ⟨.hbm, 186, rfl⟩
abbrev main_call4_v1 : Ref sig .tc := ⟨.hbm, 187, rfl⟩
abbrev main_call4_c_0 : Ref sig .tc := ⟨.hbm, 188, rfl⟩
abbrev main_call4_v2 : Ref sig .tc := ⟨.hbm, 189, rfl⟩
abbrev main_call4_v3 : Ref sig .tc := ⟨.hbm, 190, rfl⟩
abbrev main_call4_v4 : Ref sig .tc := ⟨.hbm, 191, rfl⟩
abbrev main_call4_c_1 : Ref sig .tc := ⟨.hbm, 192, rfl⟩
abbrev main_call4_c_2 : Ref sig .tc := ⟨.hbm, 193, rfl⟩
abbrev main_call4_v5 : Ref sig .tc := ⟨.hbm, 194, rfl⟩
abbrev main_call4_v6 : Ref sig .tc := ⟨.hbm, 195, rfl⟩
abbrev main_call4_v7 : Ref sig .tc := ⟨.hbm, 196, rfl⟩
abbrev main_call4_v8 : Ref sig .tc := ⟨.hbm, 197, rfl⟩
abbrev main_call4_v9 : Ref sig .tc := ⟨.hbm, 198, rfl⟩
abbrev main_call4_v10 : Ref sig .tc := ⟨.hbm, 199, rfl⟩
abbrev main_call4_c_3 : Ref sig .tc := ⟨.hbm, 200, rfl⟩
abbrev main_call4_v11 : Ref sig .tc := ⟨.hbm, 201, rfl⟩
abbrev main_call4_v12 : Ref sig .tc := ⟨.hbm, 202, rfl⟩
abbrev main_call4_v13 : Ref sig .tc := ⟨.hbm, 203, rfl⟩
abbrev main_call4_cst : Ref sig .tc := ⟨.hbm, 204, rfl⟩
abbrev main_call4_v14 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_call5_c : Ref sig .tc := ⟨.hbm, 209, rfl⟩
abbrev main_call5_v0 : Ref sig .tc := ⟨.hbm, 210, rfl⟩
abbrev main_call5_v1 : Ref sig .tc := ⟨.hbm, 211, rfl⟩
abbrev main_call5_c_0 : Ref sig .tc := ⟨.hbm, 212, rfl⟩
abbrev main_call5_v2 : Ref sig .tc := ⟨.hbm, 213, rfl⟩
abbrev main_call5_v3 : Ref sig .tc := ⟨.hbm, 214, rfl⟩
abbrev main_call5_v4 : Ref sig .tc := ⟨.hbm, 215, rfl⟩
abbrev main_call5_v5 : Ref sig .tc := ⟨.hbm, 216, rfl⟩
abbrev main_call5_c_1 : Ref sig .tc := ⟨.hbm, 217, rfl⟩
abbrev main_call5_c_2 : Ref sig .tc := ⟨.hbm, 218, rfl⟩
abbrev main_call5_v6 : Ref sig .tc := ⟨.hbm, 219, rfl⟩
abbrev main_call5_v7 : Ref sig .tc := ⟨.hbm, 220, rfl⟩
abbrev main_call5_v8 : Ref sig .tc := ⟨.hbm, 221, rfl⟩
abbrev main_call5_v9 : Ref sig .tc := ⟨.hbm, 222, rfl⟩
abbrev main_call5_v10 : Ref sig .tc := ⟨.hbm, 223, rfl⟩
abbrev main_call5_v11 : Ref sig .tc := ⟨.hbm, 224, rfl⟩
abbrev main_call5_c_3 : Ref sig .tc := ⟨.hbm, 225, rfl⟩
abbrev main_call5_v12 : Ref sig .tc := ⟨.hbm, 226, rfl⟩
abbrev main_call5_v13 : Ref sig .tc := ⟨.hbm, 227, rfl⟩
abbrev main_call5_cst : Ref sig .tc := ⟨.hbm, 228, rfl⟩
abbrev main_call5_v14 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_call6_c : Ref sig .tc := ⟨.hbm, 233, rfl⟩
abbrev main_call6_v0 : Ref sig .tc := ⟨.hbm, 234, rfl⟩
abbrev main_call6_v1 : Ref sig .tc := ⟨.hbm, 235, rfl⟩
abbrev main_call6_c_0 : Ref sig .tc := ⟨.hbm, 236, rfl⟩
abbrev main_call6_v2 : Ref sig .tc := ⟨.hbm, 237, rfl⟩
abbrev main_call6_v3 : Ref sig .tc := ⟨.hbm, 238, rfl⟩
abbrev main_call6_v4 : Ref sig .tc := ⟨.hbm, 239, rfl⟩
abbrev main_call6_v5 : Ref sig .tc := ⟨.hbm, 240, rfl⟩
abbrev main_call6_c_1 : Ref sig .tc := ⟨.hbm, 241, rfl⟩
abbrev main_call6_c_2 : Ref sig .tc := ⟨.hbm, 242, rfl⟩
abbrev main_call6_v6 : Ref sig .tc := ⟨.hbm, 243, rfl⟩
abbrev main_call6_v7 : Ref sig .tc := ⟨.hbm, 244, rfl⟩
abbrev main_call6_v8 : Ref sig .tc := ⟨.hbm, 245, rfl⟩
abbrev main_call6_v9 : Ref sig .tc := ⟨.hbm, 246, rfl⟩
abbrev main_call6_v10 : Ref sig .tc := ⟨.hbm, 247, rfl⟩
abbrev main_call6_v11 : Ref sig .tc := ⟨.hbm, 248, rfl⟩
abbrev main_call6_c_3 : Ref sig .tc := ⟨.hbm, 249, rfl⟩
abbrev main_call6_v12 : Ref sig .tc := ⟨.hbm, 250, rfl⟩
abbrev main_call6_v13 : Ref sig .tc := ⟨.hbm, 251, rfl⟩
abbrev main_call6_cst : Ref sig .tc := ⟨.hbm, 252, rfl⟩
abbrev main_call6_v14 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_v118 : Ref sig .tc := ⟨.hbm, 258, rfl⟩
abbrev main_v119 : Ref sig .tc := ⟨.hbm, 259, rfl⟩
abbrev main_v120 : Ref sig .tc := ⟨.hbm, 260, rfl⟩
abbrev main_v121 : Ref sig .tc := ⟨.hbm, 261, rfl⟩
abbrev main_v122 : Ref sig .tc := ⟨.hbm, 262, rfl⟩
abbrev main_v123 : Ref sig .tc := ⟨.hbm, 263, rfl⟩
abbrev main_v124 : Ref sig .tc := ⟨.hbm, 264, rfl⟩
abbrev main_v125 : Ref sig .tc := ⟨.hbm, 265, rfl⟩
abbrev main_v126 : Ref sig .tc := ⟨.hbm, 266, rfl⟩
abbrev main_v127 : Ref sig .tc := ⟨.hbm, 267, rfl⟩
abbrev main_v128 : Ref sig .tc := ⟨.hbm, 268, rfl⟩
abbrev main_v129 : Ref sig .tc := ⟨.hbm, 269, rfl⟩
abbrev main_v130 : Ref sig .tc := ⟨.hbm, 270, rfl⟩
abbrev main_v131 : Ref sig .tc := ⟨.hbm, 271, rfl⟩
abbrev main_v132 : Ref sig .tc := ⟨.hbm, 272, rfl⟩
abbrev main_v133 : Ref sig .tc := ⟨.hbm, 273, rfl⟩
abbrev main_v134 : Ref sig .tc := ⟨.hbm, 274, rfl⟩
abbrev main_values_21 : Ref sig .tc := ⟨.hbm, 275, rfl⟩
abbrev main_indices_22 : Ref sig .tc := ⟨.hbm, 276, rfl⟩
abbrev main_c_23 : Ref sig .tc := ⟨.hbm, 277, rfl⟩
abbrev main_call7_v0 : Ref sig .tc := ⟨.hbm, 278, rfl⟩
abbrev main_call7_v1 : Ref sig .tc := ⟨.hbm, 279, rfl⟩
abbrev main_call7_v2 : Ref sig .tc := ⟨.hbm, 280, rfl⟩
abbrev main_call7_v3 : Ref sig .tc := ⟨.hbm, 281, rfl⟩
abbrev main_call7_v4 : Ref sig .tc := ⟨.hbm, 282, rfl⟩
abbrev main_call7_v5 : Ref sig .tc := ⟨.hbm, 283, rfl⟩
abbrev main_call7_v6 : Ref sig .tc := ⟨.hbm, 284, rfl⟩
abbrev main_call7_v7 : Ref sig .tc := ⟨.hbm, 285, rfl⟩
abbrev main_call7_v8 : Ref sig .tc := ⟨.hbm, 286, rfl⟩
abbrev main_call7_c : Ref sig .tc := ⟨.hbm, 287, rfl⟩
abbrev main_call7_v9 : Ref sig .tc := ⟨.hbm, 288, rfl⟩
abbrev main_call7_v10 : Ref sig .tc := ⟨.hbm, 289, rfl⟩
abbrev main_call7_v11 : Ref sig .tc := ⟨.hbm, 290, rfl⟩
abbrev main_call7_c_0 : Ref sig .tc := ⟨.hbm, 291, rfl⟩
abbrev main_call7_v12 : Ref sig .tc := ⟨.hbm, 292, rfl⟩
abbrev main_call7_v13 : Ref sig .tc := ⟨.hbm, 293, rfl⟩
abbrev main_v135 : Ref sig .tc := ⟨.hbm, 294, rfl⟩
abbrev main_v136 : Ref sig .tc := ⟨.hbm, 295, rfl⟩
abbrev main_call8_c : Ref sig .tc := ⟨.hbm, 296, rfl⟩
abbrev main_call8_v0 : Ref sig .tc := ⟨.hbm, 297, rfl⟩
abbrev main_call8_v1 : Ref sig .tc := ⟨.hbm, 298, rfl⟩
abbrev main_call8_c_0 : Ref sig .tc := ⟨.hbm, 299, rfl⟩
abbrev main_call8_v2 : Ref sig .tc := ⟨.hbm, 300, rfl⟩
abbrev main_call8_v3 : Ref sig .tc := ⟨.hbm, 301, rfl⟩
abbrev main_call8_v4 : Ref sig .tc := ⟨.hbm, 302, rfl⟩
abbrev main_call8_c_1 : Ref sig .tc := ⟨.hbm, 303, rfl⟩
abbrev main_call8_c_2 : Ref sig .tc := ⟨.hbm, 304, rfl⟩
abbrev main_call8_v5 : Ref sig .tc := ⟨.hbm, 305, rfl⟩
abbrev main_call8_v6 : Ref sig .tc := ⟨.hbm, 306, rfl⟩
abbrev main_call8_v7 : Ref sig .tc := ⟨.hbm, 307, rfl⟩
abbrev main_call8_v8 : Ref sig .tc := ⟨.hbm, 308, rfl⟩
abbrev main_call8_v9 : Ref sig .tc := ⟨.hbm, 309, rfl⟩
abbrev main_call8_v10 : Ref sig .tc := ⟨.hbm, 310, rfl⟩
abbrev main_call8_c_3 : Ref sig .tc := ⟨.hbm, 311, rfl⟩
abbrev main_call8_v11 : Ref sig .tc := ⟨.hbm, 312, rfl⟩
abbrev main_call8_v12 : Ref sig .tc := ⟨.hbm, 313, rfl⟩
abbrev main_call8_v13 : Ref sig .tc := ⟨.hbm, 314, rfl⟩
abbrev main_call8_cst : Ref sig .tc := ⟨.hbm, 315, rfl⟩
abbrev main_call8_v14 : Ref sig .tc := ⟨.hbm, 316, rfl⟩
abbrev main_v137 : Ref sig .tc := ⟨.hbm, 317, rfl⟩
abbrev main_v138 : Ref sig .tc := ⟨.hbm, 318, rfl⟩
abbrev main_v139 : Ref sig .tc := ⟨.hbm, 319, rfl⟩
abbrev main_values_24 : Ref sig .tc := ⟨.hbm, 320, rfl⟩
abbrev main_indices_25 : Ref sig .tc := ⟨.hbm, 321, rfl⟩
abbrev main_v140 : Ref sig .tc := ⟨.hbm, 322, rfl⟩
abbrev main_call9_c : Ref sig .tc := ⟨.hbm, 323, rfl⟩
abbrev main_call9_v0 : Ref sig .tc := ⟨.hbm, 324, rfl⟩
abbrev main_call9_v1 : Ref sig .tc := ⟨.hbm, 325, rfl⟩
abbrev main_call9_c_0 : Ref sig .tc := ⟨.hbm, 326, rfl⟩
abbrev main_call9_v2 : Ref sig .tc := ⟨.hbm, 327, rfl⟩
abbrev main_call9_v3 : Ref sig .tc := ⟨.hbm, 328, rfl⟩
abbrev main_call9_v4 : Ref sig .tc := ⟨.hbm, 329, rfl⟩
abbrev main_call9_c_1 : Ref sig .tc := ⟨.hbm, 330, rfl⟩
abbrev main_call9_c_2 : Ref sig .tc := ⟨.hbm, 331, rfl⟩
abbrev main_call9_v5 : Ref sig .tc := ⟨.hbm, 332, rfl⟩
abbrev main_call9_v6 : Ref sig .tc := ⟨.hbm, 333, rfl⟩
abbrev main_call9_v7 : Ref sig .tc := ⟨.hbm, 334, rfl⟩
abbrev main_call9_v8 : Ref sig .tc := ⟨.hbm, 335, rfl⟩
abbrev main_call9_v9 : Ref sig .tc := ⟨.hbm, 336, rfl⟩
abbrev main_call9_v10 : Ref sig .tc := ⟨.hbm, 337, rfl⟩
abbrev main_call9_c_3 : Ref sig .tc := ⟨.hbm, 338, rfl⟩
abbrev main_call9_v11 : Ref sig .tc := ⟨.hbm, 339, rfl⟩
abbrev main_call9_v12 : Ref sig .tc := ⟨.hbm, 340, rfl⟩
abbrev main_call9_v13 : Ref sig .tc := ⟨.hbm, 341, rfl⟩
abbrev main_call9_cst : Ref sig .tc := ⟨.hbm, 342, rfl⟩
abbrev main_call9_v14 : Ref sig .tc := ⟨.hbm, 343, rfl⟩
abbrev main_v141 : Ref sig .tc := ⟨.hbm, 344, rfl⟩
abbrev main_v142 : Ref sig .tc := ⟨.hbm, 345, rfl⟩
abbrev main_v143 : Ref sig .tc := ⟨.hbm, 346, rfl⟩
abbrev main_call10_c : Ref sig .tc := ⟨.hbm, 347, rfl⟩
abbrev main_call10_v0 : Ref sig .tc := ⟨.hbm, 348, rfl⟩
abbrev main_call10_v1 : Ref sig .tc := ⟨.hbm, 349, rfl⟩
abbrev main_call10_c_0 : Ref sig .tc := ⟨.hbm, 350, rfl⟩
abbrev main_call10_v2 : Ref sig .tc := ⟨.hbm, 351, rfl⟩
abbrev main_call10_v3 : Ref sig .tc := ⟨.hbm, 352, rfl⟩
abbrev main_call10_v4 : Ref sig .tc := ⟨.hbm, 353, rfl⟩
abbrev main_call10_v5 : Ref sig .tc := ⟨.hbm, 354, rfl⟩
abbrev main_call10_c_1 : Ref sig .tc := ⟨.hbm, 355, rfl⟩
abbrev main_call10_c_2 : Ref sig .tc := ⟨.hbm, 356, rfl⟩
abbrev main_call10_v6 : Ref sig .tc := ⟨.hbm, 357, rfl⟩
abbrev main_call10_v7 : Ref sig .tc := ⟨.hbm, 358, rfl⟩
abbrev main_call10_v8 : Ref sig .tc := ⟨.hbm, 359, rfl⟩
abbrev main_call10_v9 : Ref sig .tc := ⟨.hbm, 360, rfl⟩
abbrev main_call10_v10 : Ref sig .tc := ⟨.hbm, 361, rfl⟩
abbrev main_call10_v11 : Ref sig .tc := ⟨.hbm, 362, rfl⟩
abbrev main_call10_c_3 : Ref sig .tc := ⟨.hbm, 363, rfl⟩
abbrev main_call10_v12 : Ref sig .tc := ⟨.hbm, 364, rfl⟩
abbrev main_call10_v13 : Ref sig .tc := ⟨.hbm, 365, rfl⟩
abbrev main_call10_cst : Ref sig .tc := ⟨.hbm, 366, rfl⟩
abbrev main_call10_v14 : Ref sig .tc := ⟨.hbm, 367, rfl⟩
abbrev main_v144 : Ref sig .tc := ⟨.hbm, 368, rfl⟩
abbrev main_v145 : Ref sig .tc := ⟨.hbm, 369, rfl⟩
abbrev main_v146 : Ref sig .tc := ⟨.hbm, 370, rfl⟩
abbrev main_call11_c : Ref sig .tc := ⟨.hbm, 371, rfl⟩
abbrev main_call11_v0 : Ref sig .tc := ⟨.hbm, 372, rfl⟩
abbrev main_call11_v1 : Ref sig .tc := ⟨.hbm, 373, rfl⟩
abbrev main_call11_c_0 : Ref sig .tc := ⟨.hbm, 374, rfl⟩
abbrev main_call11_v2 : Ref sig .tc := ⟨.hbm, 375, rfl⟩
abbrev main_call11_v3 : Ref sig .tc := ⟨.hbm, 376, rfl⟩
abbrev main_call11_v4 : Ref sig .tc := ⟨.hbm, 377, rfl⟩
abbrev main_call11_v5 : Ref sig .tc := ⟨.hbm, 378, rfl⟩
abbrev main_call11_c_1 : Ref sig .tc := ⟨.hbm, 379, rfl⟩
abbrev main_call11_c_2 : Ref sig .tc := ⟨.hbm, 380, rfl⟩
abbrev main_call11_v6 : Ref sig .tc := ⟨.hbm, 381, rfl⟩
abbrev main_call11_v7 : Ref sig .tc := ⟨.hbm, 382, rfl⟩
abbrev main_call11_v8 : Ref sig .tc := ⟨.hbm, 383, rfl⟩
abbrev main_call11_v9 : Ref sig .tc := ⟨.hbm, 384, rfl⟩
abbrev main_call11_v10 : Ref sig .tc := ⟨.hbm, 385, rfl⟩
abbrev main_call11_v11 : Ref sig .tc := ⟨.hbm, 386, rfl⟩
abbrev main_call11_c_3 : Ref sig .tc := ⟨.hbm, 387, rfl⟩
abbrev main_call11_v12 : Ref sig .tc := ⟨.hbm, 388, rfl⟩
abbrev main_call11_v13 : Ref sig .tc := ⟨.hbm, 389, rfl⟩
abbrev main_call11_cst : Ref sig .tc := ⟨.hbm, 390, rfl⟩
abbrev main_call11_v14 : Ref sig .tc := ⟨.hbm, 391, rfl⟩
abbrev main_v147 : Ref sig .tc := ⟨.hbm, 392, rfl⟩
abbrev main_v148 : Ref sig .tc := ⟨.hbm, 393, rfl⟩
abbrev main_v149 : Ref sig .tc := ⟨.hbm, 394, rfl⟩
abbrev main_v150 : Ref sig .tc := ⟨.hbm, 395, rfl⟩
abbrev main_v151 : Ref sig .tc := ⟨.hbm, 396, rfl⟩
abbrev main_v152 : Ref sig .tc := ⟨.hbm, 397, rfl⟩
abbrev main_v153 : Ref sig .tc := ⟨.hbm, 398, rfl⟩
abbrev main_v154 : Ref sig .tc := ⟨.hbm, 399, rfl⟩
abbrev main_v155 : Ref sig .tc := ⟨.hbm, 400, rfl⟩
abbrev main_v156 : Ref sig .tc := ⟨.hbm, 401, rfl⟩
abbrev main_v157 : Ref sig .tc := ⟨.hbm, 402, rfl⟩
abbrev main_v158 : Ref sig .tc := ⟨.hbm, 403, rfl⟩
abbrev main_v159 : Ref sig .tc := ⟨.hbm, 404, rfl⟩
abbrev main_v160 : Ref sig .tc := ⟨.hbm, 405, rfl⟩
abbrev main_v161 : Ref sig .tc := ⟨.hbm, 406, rfl⟩
abbrev main_v162 : Ref sig .tc := ⟨.hbm, 407, rfl⟩
abbrev main_v163 : Ref sig .tc := ⟨.hbm, 408, rfl⟩
abbrev main_v164 : Ref sig .tc := ⟨.hbm, 409, rfl⟩
abbrev main_v165 : Ref sig .tc := ⟨.hbm, 410, rfl⟩
abbrev main_v166 : Ref sig .tc := ⟨.hbm, 411, rfl⟩
abbrev main_v167 : Ref sig .tc := ⟨.hbm, 412, rfl⟩
abbrev main_v168 : Ref sig .tc := ⟨.hbm, 413, rfl⟩
abbrev main_v169 : Ref sig .tc := ⟨.hbm, 414, rfl⟩
abbrev main_v170 : Ref sig .tc := ⟨.hbm, 415, rfl⟩
abbrev main_v171 : Ref sig .tc := ⟨.hbm, 416, rfl⟩
abbrev main_v172 : Ref sig .tc := ⟨.hbm, 417, rfl⟩
abbrev main_v173 : Ref sig .tc := ⟨.hbm, 418, rfl⟩
abbrev main_v174 : Ref sig .tc := ⟨.hbm, 419, rfl⟩
abbrev main_v175 : Ref sig .tc := ⟨.hbm, 420, rfl⟩
abbrev main_v176 : Ref sig .tc := ⟨.hbm, 421, rfl⟩
abbrev main_v177 : Ref sig .tc := ⟨.hbm, 422, rfl⟩
abbrev main_cst_26 : Ref sig .tc := ⟨.hbm, 423, rfl⟩
abbrev main_v178 : Ref sig .tc := ⟨.hbm, 424, rfl⟩
abbrev main_v179 : Ref sig .tc := ⟨.hbm, 425, rfl⟩
abbrev main_cst_27 : Ref sig .tc := ⟨.hbm, 426, rfl⟩
abbrev main_call12_v0 : Ref sig .tc := ⟨.hbm, 427, rfl⟩
abbrev main_call12_v1 : Ref sig .tc := ⟨.hbm, 428, rfl⟩
abbrev main_call12_v2 : Ref sig .tc := ⟨.hbm, 429, rfl⟩
abbrev main_call12_v3 : Ref sig .tc := ⟨.hbm, 430, rfl⟩
abbrev main_v180 : Ref sig .tc := ⟨.hbm, 431, rfl⟩
abbrev main_v181 : Ref sig .tc := ⟨.hbm, 432, rfl⟩
abbrev main_v182 : Ref sig .tc := ⟨.hbm, 433, rfl⟩
abbrev main_cst_28 : Ref sig .tc := ⟨.hbm, 434, rfl⟩
abbrev main_v183 : Ref sig .tc := ⟨.hbm, 435, rfl⟩
abbrev main_v184 : Ref sig .tc := ⟨.hbm, 436, rfl⟩
abbrev main_cst_29 : Ref sig .tc := ⟨.hbm, 437, rfl⟩
abbrev main_call13_v0 : Ref sig .tc := ⟨.hbm, 438, rfl⟩
abbrev main_call13_v1 : Ref sig .tc := ⟨.hbm, 439, rfl⟩
abbrev main_call13_v2 : Ref sig .tc := ⟨.hbm, 440, rfl⟩
abbrev main_call13_v3 : Ref sig .tc := ⟨.hbm, 441, rfl⟩
abbrev main_v185 : Ref sig .tc := ⟨.hbm, 442, rfl⟩
abbrev main_v186 : Ref sig .tc := ⟨.hbm, 443, rfl⟩
abbrev main_v187 : Ref sig .tc := ⟨.hbm, 444, rfl⟩
abbrev main_cst_30 : Ref sig .tc := ⟨.hbm, 445, rfl⟩
abbrev main_v188 : Ref sig .tc := ⟨.hbm, 446, rfl⟩
abbrev main_v189 : Ref sig .tc := ⟨.hbm, 447, rfl⟩
abbrev main_cst_31 : Ref sig .tc := ⟨.hbm, 448, rfl⟩
abbrev main_call14_v0 : Ref sig .tc := ⟨.hbm, 449, rfl⟩
abbrev main_call14_v1 : Ref sig .tc := ⟨.hbm, 450, rfl⟩
abbrev main_call14_v2 : Ref sig .tc := ⟨.hbm, 451, rfl⟩
abbrev main_call14_v3 : Ref sig .tc := ⟨.hbm, 452, rfl⟩
abbrev main_v190 : Ref sig .tc := ⟨.hbm, 453, rfl⟩
abbrev main_v191 : Ref sig .tc := ⟨.hbm, 454, rfl⟩
abbrev main_v192 : Ref sig .tc := ⟨.hbm, 455, rfl⟩
abbrev main_cst_32 : Ref sig .tc := ⟨.hbm, 456, rfl⟩
abbrev main_v193 : Ref sig .tc := ⟨.hbm, 457, rfl⟩
abbrev main_v194 : Ref sig .tc := ⟨.hbm, 458, rfl⟩
abbrev main_cst_33 : Ref sig .tc := ⟨.hbm, 459, rfl⟩
abbrev main_call15_v0 : Ref sig .tc := ⟨.hbm, 460, rfl⟩
abbrev main_call15_v1 : Ref sig .tc := ⟨.hbm, 461, rfl⟩
abbrev main_call15_v2 : Ref sig .tc := ⟨.hbm, 462, rfl⟩
abbrev main_call15_v3 : Ref sig .tc := ⟨.hbm, 463, rfl⟩
abbrev main_v195 : Ref sig .tc := ⟨.hbm, 464, rfl⟩
abbrev main_v196 : Ref sig .tc := ⟨.hbm, 465, rfl⟩
abbrev main_v197 : Ref sig .tc := ⟨.hbm, 466, rfl⟩
abbrev main_v198 : Ref sig .tc := ⟨.hbm, 467, rfl⟩
abbrev main_v199 : Ref sig .tc := ⟨.hbm, 468, rfl⟩
abbrev main_v200 : Ref sig .tc := ⟨.hbm, 469, rfl⟩
abbrev main_values_34 : Ref sig .tc := ⟨.hbm, 470, rfl⟩
abbrev main_indices_35 : Ref sig .tc := ⟨.hbm, 471, rfl⟩
abbrev main_v201 : Ref sig .tc := ⟨.hbm, 472, rfl⟩
abbrev main_call16_c : Ref sig .tc := ⟨.hbm, 473, rfl⟩
abbrev main_call16_v0 : Ref sig .tc := ⟨.hbm, 474, rfl⟩
abbrev main_call16_v1 : Ref sig .tc := ⟨.hbm, 475, rfl⟩
abbrev main_call16_c_0 : Ref sig .tc := ⟨.hbm, 476, rfl⟩
abbrev main_call16_v2 : Ref sig .tc := ⟨.hbm, 477, rfl⟩
abbrev main_call16_v3 : Ref sig .tc := ⟨.hbm, 478, rfl⟩
abbrev main_call16_v4 : Ref sig .tc := ⟨.hbm, 479, rfl⟩
abbrev main_call16_c_1 : Ref sig .tc := ⟨.hbm, 480, rfl⟩
abbrev main_call16_c_2 : Ref sig .tc := ⟨.hbm, 481, rfl⟩
abbrev main_call16_v5 : Ref sig .tc := ⟨.hbm, 482, rfl⟩
abbrev main_call16_v6 : Ref sig .tc := ⟨.hbm, 483, rfl⟩
abbrev main_call16_v7 : Ref sig .tc := ⟨.hbm, 484, rfl⟩
abbrev main_call16_v8 : Ref sig .tc := ⟨.hbm, 485, rfl⟩
abbrev main_call16_v9 : Ref sig .tc := ⟨.hbm, 486, rfl⟩
abbrev main_call16_v10 : Ref sig .tc := ⟨.hbm, 487, rfl⟩
abbrev main_call16_c_3 : Ref sig .tc := ⟨.hbm, 488, rfl⟩
abbrev main_call16_v11 : Ref sig .tc := ⟨.hbm, 489, rfl⟩
abbrev main_call16_v12 : Ref sig .tc := ⟨.hbm, 490, rfl⟩
abbrev main_call16_v13 : Ref sig .tc := ⟨.hbm, 491, rfl⟩
abbrev main_call16_cst : Ref sig .tc := ⟨.hbm, 492, rfl⟩
abbrev main_call16_v14 : Ref sig .tc := ⟨.hbm, 493, rfl⟩
abbrev main_v202 : Ref sig .tc := ⟨.hbm, 494, rfl⟩
abbrev main_v203 : Ref sig .tc := ⟨.hbm, 495, rfl⟩
abbrev main_v204 : Ref sig .tc := ⟨.hbm, 496, rfl⟩
abbrev main_v205 : Ref sig .tc := ⟨.hbm, 497, rfl⟩
abbrev main_v206 : Ref sig .tc := ⟨.hbm, 498, rfl⟩
abbrev main_v207 : Ref sig .tc := ⟨.hbm, 499, rfl⟩
abbrev main_v208 : Ref sig .tc := ⟨.hbm, 500, rfl⟩
abbrev main_v209 : Ref sig .tc := ⟨.hbm, 501, rfl⟩
abbrev main_v210 : Ref sig .tc := ⟨.hbm, 502, rfl⟩
abbrev main_v211 : Ref sig .tc := ⟨.hbm, 503, rfl⟩
abbrev main_cst_36 : Ref sig .tc := ⟨.hbm, 504, rfl⟩
abbrev main_v212 : Ref sig .tc := ⟨.hbm, 505, rfl⟩
abbrev main_v213 : Ref sig .tc := ⟨.hbm, 506, rfl⟩
abbrev main_v214 : Ref sig .tc := ⟨.hbm, 507, rfl⟩
abbrev main_cst_37 : Ref sig .tc := ⟨.hbm, 508, rfl⟩
abbrev main_v215 : Ref sig .tc := ⟨.hbm, 509, rfl⟩
abbrev main_v216 : Ref sig .tc := ⟨.hbm, 510, rfl⟩
abbrev main_v217 : Ref sig .tc := ⟨.hbm, 511, rfl⟩
abbrev main_v218 : Ref sig .tc := ⟨.hbm, 512, rfl⟩
abbrev main_c_38 : Ref sig .tc := ⟨.hbm, 513, rfl⟩
abbrev main_v219 : Ref sig .tc := ⟨.hbm, 514, rfl⟩
abbrev main_c_39 : Ref sig .tc := ⟨.hbm, 515, rfl⟩
abbrev main_c_40 : Ref sig .tc := ⟨.hbm, 516, rfl⟩
abbrev main_v220_0 : Ref sig .tc := ⟨.hbm, 517, rfl⟩
abbrev main_v220_1 : Ref sig .tc := ⟨.hbm, 518, rfl⟩
abbrev main_v220_2 : Ref sig .tc := ⟨.hbm, 519, rfl⟩
abbrev main_v220_3 : Ref sig .tc := ⟨.hbm, 520, rfl⟩
abbrev main_v220_4 : Ref sig .tc := ⟨.hbm, 521, rfl⟩
abbrev main_v220_5 : Ref sig .tc := ⟨.hbm, 522, rfl⟩
abbrev main_v220_6 : Ref sig .tc := ⟨.hbm, 523, rfl⟩
abbrev main_v220_7 : Ref sig .tc := ⟨.hbm, 524, rfl⟩
abbrev main_v220_8 : Ref sig .tc := ⟨.hbm, 525, rfl⟩
abbrev main_while0c_c_49 : Ref sig .tc := ⟨.hbm, 526, rfl⟩
abbrev main_while0c_v235 : Ref sig .tc := ⟨.hbm, 527, rfl⟩
abbrev main_while0b_c_49 : Ref sig .tc := ⟨.hbm, 528, rfl⟩
abbrev main_while0b_v235 : Ref sig .tc := ⟨.hbm, 529, rfl⟩
abbrev main_while0b_c_50 : Ref sig .tc := ⟨.hbm, 530, rfl⟩
abbrev main_while0b_v236 : Ref sig .tc := ⟨.hbm, 531, rfl⟩
abbrev main_while0b_v237 : Ref sig .tc := ⟨.hbm, 532, rfl⟩
abbrev main_while0b_c_51 : Ref sig .tc := ⟨.hbm, 533, rfl⟩
abbrev main_while0b_v238 : Ref sig .tc := ⟨.hbm, 534, rfl⟩
abbrev main_while0b_v239 : Ref sig .tc := ⟨.hbm, 535, rfl⟩
abbrev main_while0b_c_52 : Ref sig .tc := ⟨.hbm, 536, rfl⟩
abbrev main_while0b_v240 : Ref sig .tc := ⟨.hbm, 537, rfl⟩
abbrev main_while0b_v241 : Ref sig .tc := ⟨.hbm, 538, rfl⟩
abbrev main_while0b_v242 : Ref sig .tc := ⟨.hbm, 539, rfl⟩
abbrev main_while0b_c_53 : Ref sig .tc := ⟨.hbm, 540, rfl⟩
abbrev main_while0b_v243 : Ref sig .tc := ⟨.hbm, 541, rfl⟩
abbrev main_while0b_v244 : Ref sig .tc := ⟨.hbm, 542, rfl⟩
abbrev main_while0b_c_54 : Ref sig .tc := ⟨.hbm, 543, rfl⟩
abbrev main_while0b_v245 : Ref sig .tc := ⟨.hbm, 544, rfl⟩
abbrev main_while0b_v246 : Ref sig .tc := ⟨.hbm, 545, rfl⟩
abbrev main_while0b_c_55 : Ref sig .tc := ⟨.hbm, 546, rfl⟩
abbrev main_while0b_v247 : Ref sig .tc := ⟨.hbm, 547, rfl⟩
abbrev main_while0b_v248 : Ref sig .tc := ⟨.hbm, 548, rfl⟩
abbrev main_while0b_v249 : Ref sig .tc := ⟨.hbm, 549, rfl⟩
abbrev main_while0b_c_56 : Ref sig .tc := ⟨.hbm, 550, rfl⟩
abbrev main_while0b_v250 : Ref sig .tc := ⟨.hbm, 551, rfl⟩
abbrev main_while0b_v251 : Ref sig .tc := ⟨.hbm, 552, rfl⟩
abbrev main_while0b_c_57 : Ref sig .tc := ⟨.hbm, 553, rfl⟩
abbrev main_while0b_v252 : Ref sig .tc := ⟨.hbm, 554, rfl⟩
abbrev main_while0b_v253 : Ref sig .tc := ⟨.hbm, 555, rfl⟩
abbrev main_while0b_c_58 : Ref sig .tc := ⟨.hbm, 556, rfl⟩
abbrev main_while0b_v254 : Ref sig .tc := ⟨.hbm, 557, rfl⟩
abbrev main_while0b_v255 : Ref sig .tc := ⟨.hbm, 558, rfl⟩
abbrev main_while0b_v256 : Ref sig .tc := ⟨.hbm, 559, rfl⟩
abbrev main_while0b_c_59 : Ref sig .tc := ⟨.hbm, 560, rfl⟩
abbrev main_while0b_v257 : Ref sig .tc := ⟨.hbm, 561, rfl⟩
abbrev main_while0b_v258 : Ref sig .tc := ⟨.hbm, 562, rfl⟩
abbrev main_while0b_c_60 : Ref sig .tc := ⟨.hbm, 563, rfl⟩
abbrev main_while0b_v259 : Ref sig .tc := ⟨.hbm, 564, rfl⟩
abbrev main_while0b_v260 : Ref sig .tc := ⟨.hbm, 565, rfl⟩
abbrev main_while0b_c_61 : Ref sig .tc := ⟨.hbm, 566, rfl⟩
abbrev main_while0b_v261 : Ref sig .tc := ⟨.hbm, 567, rfl⟩
abbrev main_while0b_v262 : Ref sig .tc := ⟨.hbm, 568, rfl⟩
abbrev main_while0b_v263 : Ref sig .tc := ⟨.hbm, 569, rfl⟩
abbrev main_while0b_v264 : Ref sig .tc := ⟨.hbm, 570, rfl⟩
abbrev main_while0b_cst_62 : Ref sig .tc := ⟨.hbm, 571, rfl⟩
abbrev main_while0b_v265 : Ref sig .tc := ⟨.hbm, 572, rfl⟩
abbrev main_while0b_v266 : Ref sig .tc := ⟨.hbm, 573, rfl⟩
abbrev main_while0b_cst_63 : Ref sig .tc := ⟨.hbm, 574, rfl⟩
abbrev main_while0b_v267 : Ref sig .tc := ⟨.hbm, 575, rfl⟩
abbrev main_while0b_v268 : Ref sig .tc := ⟨.hbm, 576, rfl⟩
abbrev main_while0b_v269 : Ref sig .tc := ⟨.hbm, 577, rfl⟩
abbrev main_while0b_cst_64 : Ref sig .tc := ⟨.hbm, 578, rfl⟩
abbrev main_while0b_v270 : Ref sig .tc := ⟨.hbm, 579, rfl⟩
abbrev main_while0b_v271 : Ref sig .tc := ⟨.hbm, 580, rfl⟩
abbrev main_while0b_cst_65 : Ref sig .tc := ⟨.hbm, 581, rfl⟩
abbrev main_while0b_v272 : Ref sig .tc := ⟨.hbm, 582, rfl⟩
abbrev main_while0b_v273 : Ref sig .tc := ⟨.hbm, 583, rfl⟩
abbrev main_while0b_v274 : Ref sig .tc := ⟨.hbm, 584, rfl⟩
abbrev main_while0b_c_66 : Ref sig .tc := ⟨.hbm, 585, rfl⟩
abbrev main_while0b_v275 : Ref sig .tc := ⟨.hbm, 586, rfl⟩
abbrev main_while0b_v276 : Ref sig .tc := ⟨.hbm, 587, rfl⟩
abbrev main_while0b_c_67 : Ref sig .tc := ⟨.hbm, 588, rfl⟩
abbrev main_while0b_v277 : Ref sig .tc := ⟨.hbm, 589, rfl⟩
abbrev main_while0b_v278 : Ref sig .tc := ⟨.hbm, 590, rfl⟩
abbrev main_while0b_c_68 : Ref sig .tc := ⟨.hbm, 591, rfl⟩
abbrev main_while0b_v279 : Ref sig .tc := ⟨.hbm, 592, rfl⟩
abbrev main_while0b_v280 : Ref sig .tc := ⟨.hbm, 593, rfl⟩
abbrev main_while0b_v281 : Ref sig .tc := ⟨.hbm, 594, rfl⟩
abbrev main_while0b_v282 : Ref sig .tc := ⟨.hbm, 595, rfl⟩
abbrev main_while0b_v283 : Ref sig .tc := ⟨.hbm, 596, rfl⟩
abbrev main_while0b_cst_69 : Ref sig .tc := ⟨.hbm, 597, rfl⟩
abbrev main_while0b_v284 : Ref sig .tc := ⟨.hbm, 598, rfl⟩
abbrev main_while0b_v285 : Ref sig .tc := ⟨.hbm, 599, rfl⟩
abbrev main_while0b_v286 : Ref sig .tc := ⟨.hbm, 600, rfl⟩
abbrev main_while0b_v287 : Ref sig .tc := ⟨.hbm, 601, rfl⟩
abbrev main_while0b_v288 : Ref sig .tc := ⟨.hbm, 602, rfl⟩
abbrev main_while0b_v289 : Ref sig .tc := ⟨.hbm, 603, rfl⟩
abbrev main_while0b_v290 : Ref sig .tc := ⟨.hbm, 604, rfl⟩
abbrev main_while0b_v291 : Ref sig .tc := ⟨.hbm, 605, rfl⟩
abbrev main_while0b_c_70 : Ref sig .tc := ⟨.hbm, 606, rfl⟩
abbrev main_while0b_v292 : Ref sig .tc := ⟨.hbm, 607, rfl⟩
abbrev main_while0b_v293 : Ref sig .tc := ⟨.hbm, 608, rfl⟩
abbrev main_while0b_c_71 : Ref sig .tc := ⟨.hbm, 609, rfl⟩
abbrev main_while0b_v294 : Ref sig .tc := ⟨.hbm, 610, rfl⟩
abbrev main_while0b_v295 : Ref sig .tc := ⟨.hbm, 611, rfl⟩
abbrev main_while0b_c_72 : Ref sig .tc := ⟨.hbm, 612, rfl⟩
abbrev main_while0b_v296 : Ref sig .tc := ⟨.hbm, 613, rfl⟩
abbrev main_while0b_v297 : Ref sig .tc := ⟨.hbm, 614, rfl⟩
abbrev main_while0b_v298 : Ref sig .tc := ⟨.hbm, 615, rfl⟩
abbrev main_while0b_call17_v0 : Ref sig .tc := ⟨.hbm, 616, rfl⟩
abbrev main_while0b_v299 : Ref sig .tc := ⟨.hbm, 617, rfl⟩
abbrev main_while0b_c_73 : Ref sig .tc := ⟨.hbm, 618, rfl⟩
abbrev main_while0b_v300 : Ref sig .tc := ⟨.hbm, 619, rfl⟩
abbrev main_v221 : Ref sig .tc := ⟨.hbm, 620, rfl⟩
abbrev main_call18_v0 : Ref sig .tc := ⟨.hbm, 621, rfl⟩
abbrev main_call18_v1_0 : Ref sig .tc := ⟨.hbm, 622, rfl⟩
abbrev main_v222 : Ref sig .tc := ⟨.hbm, 623, rfl⟩
abbrev main_v223 : Ref sig .tc := ⟨.hbm, 624, rfl⟩
abbrev main_call19_c : Ref sig .tc := ⟨.hbm, 625, rfl⟩
abbrev main_call19_v0 : Ref sig .tc := ⟨.hbm, 626, rfl⟩
abbrev main_call19_v1 : Ref sig .tc := ⟨.hbm, 627, rfl⟩
abbrev main_call19_c_0 : Ref sig .tc := ⟨.hbm, 628, rfl⟩
abbrev main_call19_v2 : Ref sig .tc := ⟨.hbm, 629, rfl⟩
abbrev main_call19_v3 : Ref sig .tc := ⟨.hbm, 630, rfl⟩
abbrev main_call19_v4 : Ref sig .tc := ⟨.hbm, 631, rfl⟩
abbrev main_call19_v5 : Ref sig .tc := ⟨.hbm, 632, rfl⟩
abbrev main_call19_c_1 : Ref sig .tc := ⟨.hbm, 633, rfl⟩
abbrev main_call19_c_2 : Ref sig .tc := ⟨.hbm, 634, rfl⟩
abbrev main_call19_v6 : Ref sig .tc := ⟨.hbm, 635, rfl⟩
abbrev main_call19_v7 : Ref sig .tc := ⟨.hbm, 636, rfl⟩
abbrev main_call19_v8 : Ref sig .tc := ⟨.hbm, 637, rfl⟩
abbrev main_call19_v9 : Ref sig .tc := ⟨.hbm, 638, rfl⟩
abbrev main_call19_v10 : Ref sig .tc := ⟨.hbm, 639, rfl⟩
abbrev main_call19_v11 : Ref sig .tc := ⟨.hbm, 640, rfl⟩
abbrev main_call19_c_3 : Ref sig .tc := ⟨.hbm, 641, rfl⟩
abbrev main_call19_v12 : Ref sig .tc := ⟨.hbm, 642, rfl⟩
abbrev main_call19_v13 : Ref sig .tc := ⟨.hbm, 643, rfl⟩
abbrev main_call19_c_4 : Ref sig .tc := ⟨.hbm, 644, rfl⟩
abbrev main_call19_v14 : Ref sig .tc := ⟨.hbm, 645, rfl⟩
abbrev main_v224 : Ref sig .tc := ⟨.hbm, 646, rfl⟩
abbrev main_v225 : Ref sig .tc := ⟨.hbm, 647, rfl⟩
abbrev main_v226 : Ref sig .tc := ⟨.hbm, 648, rfl⟩
abbrev main_call20_c : Ref sig .tc := ⟨.hbm, 649, rfl⟩
abbrev main_call20_v0 : Ref sig .tc := ⟨.hbm, 650, rfl⟩
abbrev main_call20_v1 : Ref sig .tc := ⟨.hbm, 651, rfl⟩
abbrev main_call20_c_0 : Ref sig .tc := ⟨.hbm, 652, rfl⟩
abbrev main_call20_v2 : Ref sig .tc := ⟨.hbm, 653, rfl⟩
abbrev main_call20_v3 : Ref sig .tc := ⟨.hbm, 654, rfl⟩
abbrev main_call20_v4 : Ref sig .tc := ⟨.hbm, 655, rfl⟩
abbrev main_call20_c_1 : Ref sig .tc := ⟨.hbm, 656, rfl⟩
abbrev main_call20_c_2 : Ref sig .tc := ⟨.hbm, 657, rfl⟩
abbrev main_call20_v5 : Ref sig .tc := ⟨.hbm, 658, rfl⟩
abbrev main_call20_v6 : Ref sig .tc := ⟨.hbm, 659, rfl⟩
abbrev main_call20_v7 : Ref sig .tc := ⟨.hbm, 660, rfl⟩
abbrev main_call20_v8 : Ref sig .tc := ⟨.hbm, 661, rfl⟩
abbrev main_call20_v9 : Ref sig .tc := ⟨.hbm, 662, rfl⟩
abbrev main_call20_v10 : Ref sig .tc := ⟨.hbm, 663, rfl⟩
abbrev main_call20_c_3 : Ref sig .tc := ⟨.hbm, 664, rfl⟩
abbrev main_call20_v11 : Ref sig .tc := ⟨.hbm, 665, rfl⟩
abbrev main_call20_v12 : Ref sig .tc := ⟨.hbm, 666, rfl⟩
abbrev main_call20_v13 : Ref sig .tc := ⟨.hbm, 667, rfl⟩
abbrev main_call20_cst : Ref sig .tc := ⟨.hbm, 668, rfl⟩
abbrev main_call20_v14 : Ref sig .tc := ⟨.hbm, 669, rfl⟩
abbrev main_v227 : Ref sig .tc := ⟨.hbm, 670, rfl⟩
abbrev main_v228 : Ref sig .tc := ⟨.hbm, 671, rfl⟩
abbrev main_v229 : Ref sig .tc := ⟨.hbm, 672, rfl⟩
abbrev main_v230 : Ref sig .tc := ⟨.hbm, 673, rfl⟩
abbrev main_v231 : Ref sig .tc := ⟨.hbm, 674, rfl⟩
abbrev main_v232 : Ref sig .tc := ⟨.hbm, 675, rfl⟩
abbrev main_v233 : Ref sig .tc := ⟨.hbm, 676, rfl⟩
abbrev main_v234 : Ref sig .tc := ⟨.hbm, 677, rfl⟩

abbrev nD : Nat := 1
abbrev τ : Topo := Topo.v7x

variable {F : FTy → Type} [FloatOps F]

abbrev main_while0_count : Scf.Loop 32 := ⟨0#32, 6000#32, 1#32⟩
-- ==== Proof.Body.lean ====
/-
  One point of the suppression kernel's grid, as functions of arrays: what the body's loops make of the boxes of one
  batch entry, and the body's triple over them. Generic in the arithmetic.
-/
module

public import proofs.«01_k».proof.Proof.Gen.KernelIdeal.Loops
public import proofs.«01_k».proof.Proof.Gen.KernelIdeal.Frame
public import Idealize.ShloMosaic.Lib.Pipeline.Value
public import Idealize.ShloMosaic.Lib.Pipeline.ValueKit
public import Idealize.ShloMosaic.Lib.VecWindow
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The loops as recursions -/

/-- Block `j` of the boxes laid out one box per row. -/
def blkC (X2 : Vec F S1x47x128x8 .f32) (j : ℕ) : Vec F S1x1x128x8 .f32 :=
  fun y => X2 (fun a => match a with
    | ⟨0, _⟩ => (0 : Fin 1) | ⟨1, _⟩ => (⟨j % 47, Nat.mod_lt _ (by decide)⟩ : Fin 47) | ⟨2, _⟩ => (y 2 : Fin 128) | ⟨3, _⟩ => (y 3 : Fin 8))

/-- Block `j` of the boxes laid out one box per lane. -/
def blkR (X1 : Vec F S1x47x8x128 .f32) (j : ℕ) : Vec F S1x1x8x128 .f32 :=
  fun y => X1 (fun a => match a with
    | ⟨0, _⟩ => (0 : Fin 1) | ⟨1, _⟩ => (⟨j % 47, Nat.mod_lt _ (by decide)⟩ : Fin 47) | ⟨2, _⟩ => (y 2 : Fin 8) | ⟨3, _⟩ => (y 3 : Fin 128))

/-- Row `j` of the keep flags. -/
def rowK (K : Vec F S48x128 .f32) (j : ℕ) : Vec F S1x128 .f32 :=
  fun y => K (fun a => match a with
    | ⟨0, _⟩ => (⟨j % 48, Nat.mod_lt _ (by decide)⟩ : Fin 48) | ⟨1, _⟩ => (y 1 : Fin 128))

/-- Row `t` of the suppression mask of one block. -/
def rowM (M : Vec F S128x128 .f32) (t : ℕ) : Vec F S1x128 .f32 :=
  fun y => M (fun a => match a with
    | ⟨0, _⟩ => (⟨t % 128, Nat.mod_lt _ (by decide)⟩ : Fin 128) | ⟨1, _⟩ => (y 1 : Fin 128))

theorem trips1 : k0_t1_loop.trips = 47 := by decide +kernel
theorem trips2 : ∀ k : Fin k0_t1_loop.trips, (k0_t2_loop k).trips = k.val := by decide +kernel
theorem trips3 : ∀ k : Fin k0_t1_loop.trips, (k0_t3_loop k).trips = 0 := by decide +kernel
theorem trips4 : k0_t4_loop.trips = 128 := by decide +kernel

theorem ld_blkC (X2 : Vec F S1x47x128x8 .f32) (off : Fin 4 → ℕ) (j : ℕ) (hj : j < 47) (ho : off = ![0, j, 0, 0])
    (inb : ∀ a, off a + S1x1x128x8.size a ≤ S1x47x128x8.size a) :
    View.ld X2 (Rect.unit (s := S1x47x128x8) off S1x1x128x8.size inb) = blkC X2 j := by
  subst ho
  funext y
  rw [View.ld_apply]
  unfold blkC
  congr 1
  funext a
  apply Fin.ext
  fin_cases a
  · show 0 + 1 * (y 0 : ℕ) = 0
    have := (y 0).isLt
    change (y 0 : ℕ) < 1 at this
    omega
  · show j + 1 * (y 1 : ℕ) = j % 47
    have := (y 1).isLt
    change (y 1 : ℕ) < 1 at this
    rw [Nat.mod_eq_of_lt hj]; omega
  · show 0 + 1 * (y 2 : ℕ) = (y 2 : ℕ); omega
  · show 0 + 1 * (y 3 : ℕ) = (y 3 : ℕ); omega

theorem ld_blkR (X1 : Vec F S1x47x8x128 .f32) (off : Fin 4 → ℕ) (j : ℕ) (hj : j < 47) (ho : off = ![0, j, 0, 0])
    (inb : ∀ a, off a + S1x1x8x128.size a ≤ S1x47x8x128.size a) :
    View.ld X1 (Rect.unit (s := S1x47x8x128) off S1x1x8x128.size inb) = blkR X1 j := by
  subst ho
  funext y
  rw [View.ld_apply]
  unfold blkR
  congr 1
  funext a
  apply Fin.ext
  fin_cases a
  · show 0 + 1 * (y 0 : ℕ) = 0
    have := (y 0).isLt
    change (y 0 : ℕ) < 1 at this
    omega
  · show j + 1 * (y 1 : ℕ) = j % 47
    have := (y 1).isLt
    change (y 1 : ℕ) < 1 at this
    rw [Nat.mod_eq_of_lt hj]; omega
  · show 0 + 1 * (y 2 : ℕ) = (y 2 : ℕ); omega
  · show 0 + 1 * (y 3 : ℕ) = (y 3 : ℕ); omega

theorem ld_rowK (K : Vec F S48x128 .f32) (off : Fin 2 → ℕ) (j : ℕ) (hj : j < 48) (ho : off = ![j, 0])
    (inb : ∀ a, off a + S1x128.size a ≤ S48x128.size a) :
    View.ld K (Rect.unit (s := S48x128) off S1x128.size inb) = rowK K j := by
  subst ho
  funext y
  rw [View.ld_apply]
  unfold rowK
  congr 1
  funext a
  apply Fin.ext
  fin_cases a
  · show j + 1 * (y 0 : ℕ) = j % 48
    have := (y 0).isLt
    change (y 0 : ℕ) < 1 at this
    rw [Nat.mod_eq_of_lt hj]; omega
  · show 0 + 1 * (y 1 : ℕ) = (y 1 : ℕ); omega

theorem ld_rowM (M : Vec F S128x128 .f32) (off : Fin 2 → ℕ) (j : ℕ) (hj : j < 128) (ho : off = ![j, 0])
    (inb : ∀ a, off a + S1x128.size a ≤ S128x128.size a) :
    View.ld M (Rect.unit (s := S128x128) off S1x128.size inb) = rowM M j := by
  subst ho
  funext y
  rw [View.ld_apply]
  unfold rowM
  congr 1
  funext a
  apply Fin.ext
  fin_cases a
  · show j + 1 * (y 0 : ℕ) = j % 128
    have := (y 0).isLt
    change (y 0 : ℕ) < 1 at this
    rw [Nat.mod_eq_of_lt hj]; omega
  · show 0 + 1 * (y 1 : ℕ) = (y 1 : ℕ); omega

/-- Boxes already decided against block `j`'s boxes (lanes of `r`): the running maximum over the first `n` blocks of
    "some kept box of the block suppresses the lane". -/
def cross (X2 : Vec F S1x47x128x8 .f32) (K : Vec F S48x128 .f32) (r : Vec F S1x1x8x128 .f32) : ℕ → FVec F S1x128 .f32
  | 0 => k0_pay24
  | n + 1 => k0_pay25 (cross X2 K r n)
      (k0_pay6 (k0_pay9 r) (k0_pay10 r) (k0_pay11 r) (k0_pay12 r) (k0_pay13 r) (blkC X2 n)) (rowK K n)

/-- The pass within one block: after `t` steps, box `0 … t-1` of the block have suppressed what they suppress. -/
def within (M : Vec F S128x128 .f32) (s₀ : FVec F S1x128 .f32) : ℕ → FVec F S1x128 .f32
  | 0 => s₀
  | t + 1 => k0_pay27 (iota .tc S1x128 32 [1] iota_S1x128_d1_w32) (⟨t % 128, by rw [trips4]; exact Nat.mod_lt _ (by decide)⟩) (within M s₀ t) (rowM M t)

/-- Which box of the block suppresses which later one. -/
def maskOf (r : Vec F S1x1x8x128 .f32) (b : Vec F S1x1x128x8 .f32) : FVec F S128x128 .f32 :=
  k0_pay23 k0_pay2 (k0_pay13 r) (k0_pay19 b) (k0_pay20 r b) (k0_pay21 r b) k0_pay22

/-- The suppression flags of block `j`. -/
def supOf (X1 : Vec F S1x47x8x128 .f32) (X2 : Vec F S1x47x128x8 .f32) (K : Vec F S48x128 .f32) (j : ℕ) : FVec F S1x128 .f32 :=
  within (maskOf (blkR X1 j) (blkC X2 j)) (cross X2 K (blkR X1 j) j) 128

/-- What the blocks passed leave: the rows selected so far, the keep flags, and how many were selected. -/
structure St (F : FTy → Type) [FloatOps F] where
  out : Vec F S1x304x8 .f32
  keep : Vec F S48x128 .f32
  cnt : BitVec 32

/-- Row `j` of the keep flags replaced. -/
def putRow (K : Vec F S48x128 .f32) (j : ℕ) (v : FVec F S1x128 .f32) : Vec F S48x128 .f32 :=
  fun y => if (y 0 : ℕ) = j then v (fun a => match a with | ⟨0, _⟩ => (0 : Fin 1) | ⟨1, _⟩ => (y 1 : Fin 128)) else K y

/-- Are fewer than 300 boxes selected? -/
abbrev live (cnt : BitVec 32) : Prop := Scalar.cmpi .ne (Scalar.extui (Scalar.cmpi .slt cnt 300#32) : BitVec 32) 0#32 = 1#1

open Classical in
/-- Block `j`'s pass. -/
def step (X1 : Vec F S1x47x8x128 .f32) (X2 : Vec F S1x47x128x8 .f32) (j : ℕ) (σ : St F) : St F :=
  if live σ.cnt then
    { out := k0_pay4 (k0_pay28 (supOf X1 X2 σ.keep j)) (k0_pay30 k0_pay3 (supOf X1 X2 σ.keep j)) (k0_pay31 σ.cnt) (blkC X2 j) σ.out
      keep := putRow σ.keep j (k0_pay29 (supOf X1 X2 σ.keep j))
      cnt := Scalar.addi σ.cnt (Scalar.fptosi 32 (k0_pay5 (k0_pay28 (supOf X1 X2 σ.keep j)))) }
  else σ

/-- The state after the first `n` blocks, from the keep flags `K`. -/
def state (X1 : Vec F S1x47x8x128 .f32) (X2 : Vec F S1x47x128x8 .f32) (K : Vec F S48x128 .f32) : ℕ → St F
  | 0 => ⟨k0_pay1, K, 0#32⟩
  | n + 1 => step X1 X2 n (state X1 X2 K n)

/-! ## The run's loops are these recursions -/

section Loops

variable (𝒱 : Variants) (c : Dev nD) (bd : Option 𝒱.V) (i : grid0.Coords) (arg1 : Memref sig .tc .vmem S1x47x8x128 .f32) (harg1 : arg1.IsWhole) (arg2 : Memref sig .tc .vmem S1x47x128x8 .f32) (harg2 : arg2.IsWhole) (arg3 : Memref sig .tc .vmem S1x304x8 .f32) (harg3 : arg3.IsWhole) (arg4 : Memref sig .tc .vmem S48x128 .f32) (harg4 : arg4.IsWhole) (arg5 : Memref sig .tc .vmem S128x128 .f32) (harg5 : arg5.IsWhole) (arg6 : Memref sig .tc .smem S1 .i32) (harg6 : arg6.IsWhole)
  (v3 : IVec S1x128 32) (v8 v11 : FVec F S128x128 .f32) (k1 : Fin k0_t1_loop.trips) (arg7 : BitVec 32)
  (v22 v23 v24 v25 v32 : FVec F S1x128 .f32) (v46 : FVec F S128x1 .f32) (v63 v64 v65 : FVec F S128x128 .f32)

/-- One trip of the loop over the earlier blocks. -/
theorem trip2 (f2 : BufTy.Contents (Elt F) arg2.view.ty) (f4 : BufTy.Contents (Elt F) arg4.view.ty) (X2 : Vec F S1x47x128x8 .f32) (K : Vec F S48x128 .f32)
    (h2 : arg2.view.read (Elt F) f2 = X2) (h4 : arg4.view.read (Elt F) f4 = K) (k : Fin (k0_t2_loop k1).trips) (acc : FVec F S1x128 .f32) :
    tripR_k0_t2 (F := F) 𝒱 c bd i arg1 harg1 arg2 harg2 arg3 harg3 arg4 harg4 arg5 harg5 arg6 harg6 v3 v8 v11 k1 arg7 v22 v23 v24 v25 v32 v46 v63 v64 v65 f2 f4 k acc
      = k0_pay25 acc (k0_pay6 v22 v23 v24 v25 v32 (blkC X2 k.val)) (rowK K k.val) := by
  have hk : k.val < 47 := by have := k.isLt; have h := (k0_t2_abs k1).2.1; omega
  rw [← ld_blkC X2 _ k.val hk (k0_off3_eq k1 k) (k0_off3_inb k1 k), ← ld_rowK K _ k.val (by omega) (k0_off4_eq k1 k) (k0_off4_inb k1 k), ← h2, ← h4,
    ← View.readAt_eq_ld, ← View.readAt_eq_ld]
  unfold tripR_k0_t2 trip_k0_t2
  rfl

/-- The loop over the earlier blocks. -/
theorem loop2 (f2 : BufTy.Contents (Elt F) arg2.view.ty) (f4 : BufTy.Contents (Elt F) arg4.view.ty) (X2 : Vec F S1x47x128x8 .f32) (K : Vec F S48x128 .f32)
    (h2 : arg2.view.read (Elt F) f2 = X2) (h4 : arg4.view.read (Elt F) f4 = K) (r : Vec F S1x1x8x128 .f32) (n : ℕ) (hn : n ≤ (k0_t2_loop k1).trips) :
    st_k0_t2 (F := F) 𝒱 c bd i arg1 harg1 arg2 harg2 arg3 harg3 arg4 harg4 arg5 harg5 arg6 harg6 v3 v8 v11 k1 arg7 (k0_pay9 r) (k0_pay10 r) (k0_pay11 r) (k0_pay12 r) (k0_pay13 r) v46 v63 v64 v65 f2 f4 k0_pay24 n
      = cross X2 K r n := by
  induction n with
  | zero => exact st_k0_t2_zero ..
  | succ n ih =>
    refine (st_k0_t2_succ (F := F) 𝒱 c bd i arg1 harg1 arg2 harg2 arg3 harg3 arg4 harg4 arg5 harg5 arg6 harg6 v3 v8 v11 k1 arg7 _ _ _ _ _ v46 v63 v64 v65 f2 f4 k0_pay24 ⟨n, hn⟩).trans ?_
    rw [trip2 𝒱 c bd i arg1 harg1 arg2 harg2 arg3 harg3 arg4 harg4 arg5 harg5 arg6 harg6 v3 v8 v11 k1 arg7 _ _ _ _ _ v46 v63 v64 v65 f2 f4 X2 K h2 h4, ih (by omega)]
    rfl

/-- One step of the pass within a block. -/
theorem trip4 (f5 : BufTy.Contents (Elt F) arg5.view.ty) (M : Vec F S128x128 .f32)
    (h5 : arg5.view.read (Elt F) f5 = M) (k : Fin k0_t4_loop.trips) (acc : FVec F S1x128 .f32) :
    tripR_k0_t4 (F := F) 𝒱 c bd i arg1 harg1 arg2 harg2 arg3 harg3 arg4 harg4 arg5 harg5 arg6 harg6 v3 v8 v11 k1 arg7 v22 v23 v24 v25 v32 v46 v63 v64 v65 f5 k acc
      = k0_pay27 v3 k acc (rowM M k.val) := by
  have hk : k.val < 128 := by have := k.isLt; have h := k0_t4_abs.2.1; omega
  rw [← ld_rowM M _ k.val hk (k0_off7_eq k) (k0_off7_inb k), ← h5, ← View.readAt_eq_ld]
  unfold tripR_k0_t4 trip_k0_t4
  rfl

/-- The pass within a block. -/
theorem loop4 (f5 : BufTy.Contents (Elt F) arg5.view.ty) (M : Vec F S128x128 .f32)
    (h5 : arg5.view.read (Elt F) f5 = M) (s₀ : FVec F S1x128 .f32) (n : ℕ) (hn : n ≤ k0_t4_loop.trips) :
    st_k0_t4 (F := F) 𝒱 c bd i arg1 harg1 arg2 harg2 arg3 harg3 arg4 harg4 arg5 harg5 arg6 harg6 (iota .tc S1x128 32 [1] iota_S1x128_d1_w32) v8 v11 k1 arg7 v22 v23 v24 v25 v32 v46 v63 v64 v65 f5 s₀ n
      = within M s₀ n := by
  induction n with
  | zero => exact st_k0_t4_zero ..
  | succ n ih =>
    refine (st_k0_t4_succ (F := F) 𝒱 c bd i arg1 harg1 arg2 harg2 arg3 harg3 arg4 harg4 arg5 harg5 arg6 harg6 _ v8 v11 k1 arg7 _ _ _ _ _ v46 v63 v64 v65 f5 s₀ ⟨n, hn⟩).trans ?_
    rw [trip4 𝒱 c bd i arg1 harg1 arg2 harg2 arg3 harg3 arg4 harg4 arg5 harg5 arg6 harg6 _ v8 v11 k1 arg7 _ _ _ _ _ v46 v63 v64 v65 f5 M h5, ih (by omega)]
    have hn' : n < 128 := by rw [trips4] at hn; omega
    have e : (⟨n, hn⟩ : Fin k0_t4_loop.trips) = ⟨n % 128, by rw [trips4]; exact Nat.mod_lt _ (by decide)⟩ := Fin.ext (Nat.mod_eq_of_lt hn').symm
    exact congrArg (fun q => k0_pay27 (iota .tc S1x128 32 [1] iota_S1x128_d1_w32) q (within M s₀ n) (rowM M n)) e

/-- The three loops of a block together: the flags of the block. -/
theorem loops (f2 : BufTy.Contents (Elt F) arg2.view.ty) (f4 : BufTy.Contents (Elt F) arg4.view.ty) (f5 : BufTy.Contents (Elt F) arg5.view.ty)
    (X1 : Vec F S1x47x8x128 .f32) (X2 : Vec F S1x47x128x8 .f32) (K : Vec F S48x128 .f32) (j : ℕ)
    (h2 : arg2.view.read (Elt F) f2 = X2) (h4 : arg4.view.read (Elt F) f4 = K) (hj : j = k1.val)
    {r : Vec F S1x1x8x128 .f32} {b : Vec F S1x1x128x8 .f32} (hr : r = blkR X1 j) (hb : b = blkC X2 j)
    (h5 : arg5.view.read (Elt F) f5 = maskOf r b)
    (w22 w23 w24 w25 w32 : FVec F S1x128 .f32) (w46 : FVec F S128x1 .f32) (w63 w64 w65 : FVec F S128x128 .f32) (v88 : BitVec 32) (n2 n3 n4 : ℕ)
    (e2 : n2 = (k0_t2_loop k1).trips) (e3 : n3 = (k0_t3_loop k1).trips) (e4 : n4 = k0_t4_loop.trips) :
    st_k0_t4 (F := F) 𝒱 c bd i arg1 harg1 arg2 harg2 arg3 harg3 arg4 harg4 arg5 harg5 arg6 harg6 (iota .tc S1x128 32 [1] iota_S1x128_d1_w32) v8 v11 k1 arg7 v22 v23 v24 v25 v32 v46 v63 v64 v65 f5
      (st_k0_t3 (F := F) 𝒱 c bd i arg1 harg1 arg2 harg2 arg3 harg3 arg4 harg4 arg5 harg5 arg6 harg6 v3 v8 v11 k1 arg7 w22 w23 w24 w25 w32 w46 w63 w64 w65 v88 f2 f4
        (st_k0_t2 (F := F) 𝒱 c bd i arg1 harg1 arg2 harg2 arg3 harg3 arg4 harg4 arg5 harg5 arg6 harg6 v3 v8 v11 k1 arg7 (k0_pay9 r) (k0_pay10 r) (k0_pay11 r) (k0_pay12 r) (k0_pay13 r) w46 w63 w64 w65 f2 f4 k0_pay24 n2) n3) n4
      = supOf X1 X2 K j := by
  subst e2 e3 e4 hr hb hj
  rw [trips3, loop2 𝒱 c bd i arg1 harg1 arg2 harg2 arg3 harg3 arg4 harg4 arg5 harg5 arg6 harg6 v3 v8 v11 k1 arg7 w46 w63 w64 w65 f2 f4 X2 K h2 h4 _ _ le_rfl, trips2]
  rw [loop4 𝒱 c bd i arg1 harg1 arg2 harg2 arg3 harg3 arg4 harg4 arg5 harg5 arg6 harg6 v8 v11 k1 arg7 v22 v23 v24 v25 v32 v46 v63 v64 v65 f5 _ h5 _ _ le_rfl, trips4]
  rw [st_k0_t3_zero]
  rfl

end Loops

theorem read_row (arg4 : Memref sig .tc .vmem S48x128 .f32) (f4 : BufTy.Contents (Elt F) arg4.view.ty) (K : Vec F S48x128 .f32) (h4 : arg4.view.read (Elt F) f4 = K)
    (off : Fin 2 → ℕ) (j : ℕ) (ho : off = ![j, 0]) (inb : ∀ a, off a + S1x128.size a ≤ S48x128.size a) (v : FVec F S1x128 .f32) :
    arg4.view.read (Elt F) (arg4.view.writes (Elt F) f4 [⟨Rect.unit (s := S48x128) off S1x128.size inb, v⟩]) = putRow K j v := by
  funext y
  by_cases hy : (y 0 : ℕ) = j
  · rw [View.read_writes_cons_unit_of_mem arg4.view f4 inb v [] y (fun a => match a with | ⟨0, _⟩ => (0 : Fin 1) | ⟨1, _⟩ => (y 1 : Fin 128)) ho]
    · unfold putRow; rw [if_pos hy]
      refine congrArg v (funext fun a => ?_)
      match a with
      | ⟨0, _⟩ => rfl
      | ⟨1, _⟩ => rfl
    · intro a
      fin_cases a
      · show (y 0 : ℕ) = j + 0; omega
      · show (y 1 : ℕ) = 0 + (y 1 : ℕ); omega
  · rw [View.read_writes_cons_unit_of_not_mem arg4.view f4 inb v [] y ho 0 (by show (y 0 : ℕ) < j ∨ j + 1 ≤ (y 0 : ℕ); omega), View.writes_nil, h4]
    unfold putRow; rw [if_neg hy]

theorem readWord (arg6 : Memref sig .tc .smem S1 .i32) (f6 : BufTy.Contents (Elt F) arg6.view.ty) (w : BitVec 32) (h : arg6.view.read (Elt F) f6 = fun _ => w)
    (inb : ∀ a, (![0] : Fin 1 → ℕ) a + S1.size a ≤ S1.size a) (y) :
    arg6.view.readAt (Elt F) (Rect.unit (s := S1) ![0] S1.size inb).toLoadRect f6 y = w := by
  rw [View.readAt_eq_ld, h]

/-- The buffers before trip `k` of the loop over blocks. -/
@[sl_loop] noncomputable def loopInv_k0_t1 (c : Dev nD) (i : grid0.Coords) (arg1 : Memref sig .tc .vmem S1x47x8x128 .f32) (harg1 : arg1.IsWhole) (arg2 : Memref sig .tc .vmem S1x47x128x8 .f32) (harg2 : arg2.IsWhole) (arg3 : Memref sig .tc .vmem S1x304x8 .f32) (harg3 : arg3.IsWhole) (arg4 : Memref sig .tc .vmem S48x128 .f32) (harg4 : arg4.IsWhole) (arg5 : Memref sig .tc .vmem S128x128 .f32) (harg5 : arg5.IsWhole) (arg6 : Memref sig .tc .smem S1 .i32) (harg6 : arg6.IsWhole)
    (X1 : Vec F S1x47x8x128 .f32) (X2 : Vec F S1x47x128x8 .f32) (K : Vec F S48x128 .f32) :
    LoopInvTy_k0_t1 (F := F) Unit ℕ (UR sig nD τ) ℕ Variants.none c none Set.univ i arg1 harg1 arg2 harg2 arg3 harg3 arg4 harg4 arg5 harg5 arg6 harg6 (iota .tc S1x128 32 [1] iota_S1x128_d1_w32) where
  inv := fun k acc => iprop(
    (arg1.view.loc (c : Thread nD τ) ↦[arg1.view.set]{fullShare} harg1.unread X1) ∗ (arg2.view.loc (c : Thread nD τ) ↦[arg2.view.set]{fullShare} harg2.unread X2)
    ∗ (∃ f3, (arg3.view.loc (c : Thread nD τ) ↦[arg3.view.set]{fullShare} f3) ∗ ⌜arg3.view.read (Elt F) f3 = (state X1 X2 K k).out⌝)
    ∗ (∃ f4, (arg4.view.loc (c : Thread nD τ) ↦[arg4.view.set]{fullShare} f4) ∗ ⌜arg4.view.read (Elt F) f4 = (state X1 X2 K k).keep⌝)
    ∗ (∃ f5, arg5.view.loc (c : Thread nD τ) ↦[arg5.view.set]{fullShare} f5)
    ∗ (∃ f6, (arg6.view.loc (c : Thread nD τ) ↦[arg6.view.set]{fullShare} f6) ∗ ⌜arg6.view.read (Elt F) f6 = fun _ => (state X1 X2 K k).cnt⌝))
  step := fun k acc => by
    iintro ⟨H1, H2, ⟨%f3, H3, %h3⟩, ⟨%f4, H4, %h4⟩, ⟨%f5, H5⟩, ⟨%f6, H6, %h6⟩⟩
    unfold k0_t1_body
    have hk : k.val < 47 := Nat.lt_of_lt_of_le k.isLt k0_t1_abs.2.1
    sl_exec
    split
    · rename_i hl
      sl_exec
      sl_step
      have hl' : live (state X1 X2 K k.val).cnt := by
        revert hl
        sl_unfold_words
        rw [readWord arg6 f6 _ h6]
        exact id
      have hs : state X1 X2 K (k.val + 1) = _ := if_pos hl'
      rw [hs]
      have eR : arg1.view.readAt (Elt F) (Rect.unit (s := S1x47x8x128) (k0_off1 k) S1x1x8x128.size (k0_off1_inb k)).toLoadRect (harg1.unread X1) = blkR X1 k.val := by
        rw [View.readAt_eq_ld, harg1.read_unread, ld_blkR X1 _ k.val hk (k0_off1_eq k)]
      have eC : arg2.view.readAt (Elt F) (Rect.unit (s := S1x47x128x8) (k0_off2 k) S1x1x128x8.size (k0_off2_inb k)).toLoadRect (harg2.unread X2) = blkC X2 k.val := by
        rw [View.readAt_eq_ld, harg2.read_unread, ld_blkC X2 _ k.val hk (k0_off2_eq k)]
      have eL := loops Variants.none c none i arg1 harg1 arg2 harg2 arg3 harg3 arg4 harg4 arg5 harg5 arg6 harg6 (iota .tc S1x128 32 [1] iota_S1x128_d1_w32)
        (k0_pay2 (F := F)) (k0_pay3 (F := F)) k
      isplitl [H1]; · iexact H1
      isplitl [H2]; · iexact H2
      isplitl [H3]
      · iexists _
        isplitl [H3]; · iexact H3
        ipureintro
        sl_unfold_words
        rw [View.read_writes_full]
        refine congr (congr (congr (congr (congrArg k0_pay4 (congrArg k0_pay28 ?_)) (congrArg (k0_pay30 k0_pay3) ?_)) (congrArg k0_pay31 (readWord arg6 f6 _ h6 _ _))) eC)
          ((View.readAt_full arg3.view f3 _).trans h3) <;>
          exact eL _ _ _ _ _ _ _ _ _ _ _ _ _ X1 X2 _ _ (harg2.read_unread X2) h4 rfl eR eC (View.read_writes_full _ _ _ _ _) _ _ _ _ _ _ _ _ _ _ _ _ _ rfl rfl rfl
      isplitl [H4]
      · iexists _
        isplitl [H4]; · iexact H4
        ipureintro
        sl_unfold_words
        refine (read_row arg4 f4 _ h4 _ _ (k0_off8_eq k) _ _).trans (congrArg (putRow _ _) (congrArg k0_pay29 ?_))
        exact eL _ _ _ _ _ _ _ _ _ _ _ _ _ X1 X2 _ _ (harg2.read_unread X2) h4 rfl eR eC (View.read_writes_full _ _ _ _ _) _ _ _ _ _ _ _ _ _ _ _ _ _ rfl rfl rfl
      isplitl [H5]
      · iexists _; iexact H5
      iexists _
      isplitl [H6]; · iexact H6
      ipureintro
      sl_unfold_words
      rw [View.read_writes_full]
      funext y
      refine congr (congrArg Scalar.addi (readWord arg6 f6 _ h6 _ _)) (congrArg (Scalar.fptosi 32) (congrArg k0_pay5 (congrArg k0_pay28 ?_)))
      exact eL _ _ _ _ _ _ _ _ _ _ _ _ _ X1 X2 _ _ (harg2.read_unread X2) h4 rfl eR eC (View.read_writes_full _ _ _ _ _) _ _ _ _ _ _ _ _ _ _ _ _ _ rfl rfl rfl
    · rename_i hl
      sl_step
      have hl' : ¬ live (state X1 X2 K k.val).cnt := by
        revert hl
        sl_unfold_words
        rw [readWord arg6 f6 _ h6]
        exact id
      have hs : state X1 X2 K (k.val + 1) = state X1 X2 K k.val := if_neg hl'
      rw [hs]
      isplitl [H1]; · iexact H1
      isplitl [H2]; · iexact H2
      isplitl [H3]
      · iexists f3
        isplitl [H3]; · iexact H3
        ipureintro; exact h3
      isplitl [H4]
      · iexists f4
        isplitl [H4]; · iexact H4
        ipureintro; exact h4
      isplitl [H5]
      · iexists f5; iexact H5
      iexists f6
      isplitl [H6]; · iexact H6
      ipureintro; exact h6

end Cert.KernelIdeal.Body

end
-- ==== Proof.Region.lean ====
/-
  The suppression kernel's run: one grid point's triple, the proof data of the pipeline and the launch. Generic in the arithmetic.
-/
module

public import proofs.«01_k».proof.Proof.Body

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The keep flags found at entry do not matter -/

theorem rowK_putRow (K : Vec F S48x128 .f32) (j : ℕ) (hj : j < 48) (v : FVec F S1x128 .f32) (i : ℕ) (hi : i < 48) :
    rowK (putRow K j v) i = if i = j then v else rowK K i := by
  funext y
  have e : i % 48 = i := Nat.mod_eq_of_lt hi
  by_cases h : i = j
  · rw [if_pos h]
    refine (if_pos (e.trans h) : rowK (putRow K j v) i y = _).trans ?_
    refine congrArg v (funext fun a => ?_)
    match a with
    | ⟨0, _⟩ => exact (Subsingleton.elim (α := Fin 1) _ _)
    | ⟨1, _⟩ => rfl
  · rw [if_neg h]
    exact (if_neg (fun h' => h (e.symm.trans h')) : rowK (putRow K j v) i y = _)

theorem cross_congr (X2 : Vec F S1x47x128x8 .f32) (K K' : Vec F S48x128 .f32) (r : Vec F S1x1x8x128 .f32) (n : ℕ)
    (h : ∀ i < n, rowK K i = rowK K' i) : cross X2 K r n = cross X2 K' r n := by
  induction n with
  | zero => rfl
  | succ n ih =>
    show k0_pay25 (cross X2 K r n) _ (rowK K n) = k0_pay25 (cross X2 K' r n) _ (rowK K' n)
    rw [ih fun i hi => h i (by omega), h n (by omega)]

theorem state_congr (X1 : Vec F S1x47x8x128 .f32) (X2 : Vec F S1x47x128x8 .f32) (K K' : Vec F S48x128 .f32) (n : ℕ) (hn : n ≤ 47) :
    (state X1 X2 K n).out = (state X1 X2 K' n).out ∧ (state X1 X2 K n).cnt = (state X1 X2 K' n).cnt
      ∧ (live (state X1 X2 K n).cnt → ∀ i < n, rowK (state X1 X2 K n).keep i = rowK (state X1 X2 K' n).keep i) := by
  induction n with
  | zero => exact ⟨rfl, rfl, fun _ i hi => absurd hi (by omega)⟩
  | succ n ih =>
    obtain ⟨ho, hc, hk⟩ := ih (by omega)
    show (step X1 X2 n (state X1 X2 K n)).out = (step X1 X2 n (state X1 X2 K' n)).out ∧ (step X1 X2 n (state X1 X2 K n)).cnt = (step X1 X2 n (state X1 X2 K' n)).cnt
      ∧ (live (step X1 X2 n (state X1 X2 K n)).cnt → ∀ i < n + 1, rowK (step X1 X2 n (state X1 X2 K n)).keep i = rowK (step X1 X2 n (state X1 X2 K' n)).keep i)
    by_cases hl : live (state X1 X2 K n).cnt
    · have hs : supOf X1 X2 (state X1 X2 K n).keep n = supOf X1 X2 (state X1 X2 K' n).keep n := by
        unfold supOf; rw [cross_congr X2 _ _ _ n (hk hl)]
      unfold step
      rw [← hc, if_pos hl, if_pos hl]
      refine ⟨?_, ?_, fun _ i hi => ?_⟩
      · show k0_pay4 _ _ _ _ _ = k0_pay4 _ _ _ _ _
        rw [hs, ho]
      · show Scalar.addi _ _ = Scalar.addi _ _
        rw [hs]
      · show rowK (putRow _ n _) i = rowK (putRow _ n _) i
        rw [rowK_putRow _ n (by omega) _ i (by omega), rowK_putRow _ n (by omega) _ i (by omega), hs]
        by_cases e : i = n
        · rw [if_pos e, if_pos e]
        · rw [if_neg e, if_neg e, hk hl i (by omega)]
    · unfold step
      rw [← hc, if_neg hl, if_neg hl]
      exact ⟨ho, hc, fun h => absurd h hl⟩

/-- Zero keep flags. -/
def noKeep : Vec F S48x128 .f32 := fun _ => (k0_pay1 (F := F)) (fun a => match a with | ⟨0, _⟩ => (0 : Fin 1) | ⟨1, _⟩ => (0 : Fin 304) | ⟨2, _⟩ => (0 : Fin 8))

/-- What the body leaves in the output's staging buffer. -/
def outOf (X1 : Vec F S1x47x8x128 .f32) (X2 : Vec F S1x47x128x8 .f32) : Vec F S1x304x8 .f32 := (state X1 X2 noKeep 47).out

theorem outOf_eq (X1 : Vec F S1x47x8x128 .f32) (X2 : Vec F S1x47x128x8 .f32) (K : Vec F S48x128 .f32) :
    (state X1 X2 K k0_t1_loop.trips).out = outOf X1 X2 := by rw [trips1]; exact (state_congr X1 X2 K noKeep 47 le_rfl).1

/-! ## The body's triple -/

/-- From the two input blocks, anything in the output's buffer and anything in the scratch, the body ends with the inputs as they
    were and the output at `outOf` of them. -/
theorem sound_kernel (c : Dev nD) (i : grid0.Coords) (arg1 : Memref sig .tc .vmem S1x47x8x128 .f32) (harg1 : arg1.IsWhole) (arg2 : Memref sig .tc .vmem S1x47x128x8 .f32) (harg2 : arg2.IsWhole) (arg3 : Memref sig .tc .vmem S1x304x8 .f32) (harg3 : arg3.IsWhole)
    (X1 : Vec F S1x47x8x128 .f32) (X2 : Vec F S1x47x128x8 .f32) (Q : PUnit → sProp 𝕄) :
    iprop(owns (c : Thread nD τ) arg1 fullShare X1 ∗ owns (c : Thread nD τ) arg2 fullShare X2 ∗ (∃ d, owns (c : Thread nD τ) arg3 fullShare d)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (iprop(owns (c : Thread nD τ) arg1 fullShare X1 ∗ owns (c : Thread nD τ) arg2 fullShare X2 ∗ owns (c : Thread nD τ) arg3 fullShare (outOf X1 X2)
            ∗ (∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f)) -∗ Q ⟨⟩))
      ⊢ wp frame (wpE (defs₀ (F := F)) Variants.none c none) Set.univ
          (cc0__nms_kernel i arg1 harg1 arg2 harg2 arg3 harg3 (Memref.whole cc0_scratch0) (Memref.isWhole_whole _) (Memref.whole cc0_scratch1) (Memref.isWhole_whole _) (Memref.whole cc0_scratch2) (Memref.isWhole_whole _)) Q := by
  simp only [cc0__nms_kernel_eq_skeleton]; unfold cc0__nms_kernel_skel
  simp only [← owns_whole]
  unfold owns
  iintro ⟨⟨%f1, %hf1, H1⟩, ⟨%f2, %hf2, H2⟩, ⟨%d3, %f3, -, H3⟩, ⟨%d4, %f4, %hf4, H4⟩, ⟨%d5, %f5, -, H5⟩, ⟨%d6, %f6, -, H6⟩, Hk⟩
  obtain rfl : f1 = harg1.unread X1 := by rw [← hf1, harg1.unread_read]
  obtain rfl : f2 = harg2.unread X2 := by rw [← hf2, harg2.unread_read]
  have h3 : arg3.view.read (Elt F) (arg3.view.writes (Elt F) arg3.view.junk [⟨Rect.unit (s := S1x304x8) ![0, 0, 0] S1x304x8.size inb_S1x304x8_S1x304x8_0_0_0, k0_pay1 (F := F)⟩])
      = (state X1 X2 ((Memref.whole cc0_scratch0).view.read (Elt F) f4) 0).out := View.read_writes_full _ _ _ _ _
  have h6 : (Memref.whole cc0_scratch2).view.read (Elt F) ((Memref.whole cc0_scratch2).view.writes (Elt F) (Memref.whole cc0_scratch2).view.junk [⟨Rect.unit (s := S1) ![0] S1.size inb_S1_S1_0, fun _ => 0#32⟩])
      = fun _ => (state X1 X2 ((Memref.whole cc0_scratch0).view.read (Elt F) f4) 0).cnt := View.read_writes_full _ _ _ _ _
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hL3.trans (outOf_eq X1 X2 _)
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

/-! ## The proof data of the pipeline -/

variable (m : (ℓ : Loc nD τ sig) → Buf (Elt F) ℓ) (ρ : Dev nD → PrngReg)

/-- The proof data on core `c`: the arrays as the region finds them; after the body at a point, each input's buffer at its block and
    the output's at `outOf` of the input blocks; the scratch at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outOf (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outOf (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2]
  unfold Pipeline.ΦA
  rw [scopedRest0_eq]
  iintro ⟨⟨⟨HS0, HS1, HS2⟩, Hg⟩, Ho, ⟨%d0, H0⟩, ⟨%d1, H1⟩, ⟨%d2, H2⟩⟩
  iapply (sound_kernel c _ _ _ _ _ _ _ (iblk m c 0 t) (iblk m c 1 t) _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, H2, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  iexact H2

/-- The body table's row at point `t`. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

-- the library theorem's implicit arguments are found by unifying its conclusion with this statement
set_option backward.isDefEq.respectTransparency.types false in
/-- Every execution ends with the pipeline's arrays at what the proof data computes, every other buffer as the host lines after the
    region leave it, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Body

end
-- ==== Proof.KernelFrame.lean ====
/-
  The frame of the compiled program: the kernel's body run with nothing said of what it leaves in the scratch and in the output,
  and the launch with the output forgotten. Generic in the arithmetic.
-/
module

public import proofs.«01_k».proof.Proof.Gen.Kernel.Loops
public import proofs.«01_k».proof.Proof.Gen.Kernel.Frame
public import Idealize.ShloMosaic.Lib.Pipeline.FrameSuffix

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Every buffer the loop over blocks touches is held at something; the two inputs stay as they are. -/
@[sl_loop] noncomputable def loopInv_k0_t1 (c : Dev nD) (i : grid0.Coords) (arg1 : Memref sig .tc .vmem S1x47x8x128 .f32) (harg1 : arg1.IsWhole) (arg2 : Memref sig .tc .vmem S1x47x128x8 .f32) (harg2 : arg2.IsWhole) (arg3 : Memref sig .tc .vmem S1x304x8 .f32) (harg3 : arg3.IsWhole) (arg4 : Memref sig .tc .vmem S48x128 .f32) (harg4 : arg4.IsWhole) (arg5 : Memref sig .tc .vmem S128x128 .f32) (harg5 : arg5.IsWhole) (arg6 : Memref sig .tc .smem S1 .i32) (harg6 : arg6.IsWhole) (v3 : IVec S1x128 32)
    (f1 : BufTy.Contents (Elt F) arg1.view.ty) (f2 : BufTy.Contents (Elt F) arg2.view.ty) :
    LoopInvTy_k0_t1 (F := F) Unit ℕ (UR sig nD τ) ℕ Variants.none c none Set.univ i arg1 harg1 arg2 harg2 arg3 harg3 arg4 harg4 arg5 harg5 arg6 harg6 v3 where
  inv := fun k acc => iprop(
    (arg1.view.loc (c : Thread nD τ) ↦[arg1.view.set]{fullShare} f1) ∗ (arg2.view.loc (c : Thread nD τ) ↦[arg2.view.set]{fullShare} f2)
    ∗ (∃ f3, arg3.view.loc (c : Thread nD τ) ↦[arg3.view.set]{fullShare} f3)
    ∗ (∃ f4, arg4.view.loc (c : Thread nD τ) ↦[arg4.view.set]{fullShare} f4)
    ∗ (∃ f5, arg5.view.loc (c : Thread nD τ) ↦[arg5.view.set]{fullShare} f5)
    ∗ (∃ f6, arg6.view.loc (c : Thread nD τ) ↦[arg6.view.set]{fullShare} f6))
  step := fun k acc => by
    iintro ⟨H1, H2, ⟨%f3, H3⟩, ⟨%f4, H4⟩, ⟨%f5, H5⟩, ⟨%f6, H6⟩⟩
    unfold k0_t1_body
    sl_exec
    split <;> [sl_exec; skip] <;>
    · sl_step
      isplitl [H1]; · iexact H1
      isplitl [H2]; · iexact H2
      isplitl [H3]; · iexists _; iexact H3
      isplitl [H4]; · iexists _; iexact H4
      isplitl [H5]; · iexists _; iexact H5
      iexists _; iexact H6

/-- The kernel's scratch on core `c`, at something. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- From the two input blocks and anything elsewhere, the body ends with the inputs as they were. -/
theorem sound_kernel (c : Dev nD) (i : grid0.Coords) (arg1 : Memref sig .tc .vmem S1x47x8x128 .f32) (harg1 : arg1.IsWhole) (arg2 : Memref sig .tc .vmem S1x47x128x8 .f32) (harg2 : arg2.IsWhole) (arg3 : Memref sig .tc .vmem S1x304x8 .f32) (harg3 : arg3.IsWhole)
    (X1 : Vec F S1x47x8x128 .f32) (X2 : Vec F S1x47x128x8 .f32) (Q : PUnit → sProp 𝕄) :
    iprop(owns (c : Thread nD τ) arg1 fullShare X1 ∗ owns (c : Thread nD τ) arg2 fullShare X2 ∗ (∃ d, owns (c : Thread nD τ) arg3 fullShare d) ∗ scratch c
        ∗ (iprop(owns (c : Thread nD τ) arg1 fullShare X1 ∗ owns (c : Thread nD τ) arg2 fullShare X2 ∗ (∃ d, owns (c : Thread nD τ) arg3 fullShare d) ∗ scratch c) -∗ Q ⟨⟩))
      ⊢ wp frame (wpE (defs₀ (F := F)) Variants.none c none) Set.univ
          (cc0__nms_kernel i arg1 harg1 arg2 harg2 arg3 harg3 (Memref.whole cc0_scratch0) (Memref.isWhole_whole _) (Memref.whole cc0_scratch1) (Memref.isWhole_whole _) (Memref.whole cc0_scratch2) (Memref.isWhole_whole _)) Q := by
  simp only [cc0__nms_kernel_eq_skeleton]; unfold cc0__nms_kernel_skel
  unfold scratch
  simp only [← owns_whole]
  unfold owns
  iintro ⟨⟨%f1, %hf1, H1⟩, ⟨%f2, %hf2, H2⟩, ⟨%d3, %f3, -, H3⟩, ⟨⟨%d4, %f4, -, H4⟩, ⟨%d5, %f5, -, H5⟩, ⟨%d6, %f6, -, H6⟩⟩, Hk⟩
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

variable (m : (ℓ : Loc nD τ sig) → Buf (Elt F) ℓ) (ρ : Dev nD → PrngReg)

/-- The output window is forgotten. -/
def forgets0 : Fin 3 → Bool := fun w => w == 2

/-- The proof data on core `c`: the arrays as the region finds them, the inputs' blocks left in place, the output unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1]
  unfold Pipeline.ΦA
  rw [scopedRest0_eq]
  iintro ⟨⟨HS, Hg⟩, Ho, ⟨%d0, H0⟩, ⟨%d1, H1⟩, H2⟩
  iapply (sound_kernel c _ _ _ _ _ _ _ (iblk m c 0 t) (iblk m c 1 t) _)
  isplitl [H0]; · iexact H0
  isplitl [H1]; · iexact H1
  isplitl [H2]; · iexact H2
  isplitl [HS]; · unfold scratch; iexact HS
  unfold scratch
  iintro ⟨H0, H1, H2, HS⟩
  isplitl [HS Hg]
  · isplitl [HS]; · iexact HS
    iexact Hg
  isplitl [Ho]; · iexact Ho
  isplitl [H0]; · iexact H0
  isplitl [H1]; · iexact H1
  iexact H2

/-- The body table's row at point `t`. -/
theorem defs₀_row (t : Fin cfg0.N) : defs₀ (F := F) .tc cfg0.body (cfg0.bodyArgs t (cfg0.slots t)) = bodyAt0 t := by
  unfold defs₀; rw [Defs.onTc_tc]

/-- The library's body obligation with the output forgotten, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The buffers the host lines after the region write. -/
def tailWrites : Finset (Ref sig .tc) := {main_v212, main_v213, main_v214, main_v215, main_v216}

theorem tail_writes : ∀ ops ∈ ([hostOps1] : List (List (HloOp τ sig (Elt F)))), ∀ op ∈ ops, ∀ b : Ref sig .tc, Proc.devRef .tc b ∈ op.writes → b ∈ tailWrites := by
  intro ops hops op hop b hb
  simp only [List.mem_cons, List.mem_nil_iff, or_false] at hops
  subst hops
  simp only [hostOps1, List.mem_cons, List.mem_nil_iff, or_false] at hop
  rcases hop with rfl | rfl | rfl | rfl | rfl
  all_goals
    simp only [StableHlo.nullary_writes, StableHlo.unary_writes, StableHlo.binary_writes, StableHlo.unaryIndexed_writes, StableHlo.nary_writes, Finset.mem_singleton] at hb
    have e := Proc.devRef_injective _ hb
    subst e
    decide

-- the library theorem's implicit arguments are found by unifying its conclusion with this statement
set_option backward.isDefEq.respectTransparency.types false in
/-- Every execution ends with every buffer no host line after the region writes as the region found it, and every counter at zero. -/
theorem run_main : θ_run defs (onTc (τ := τ) (main (F := F))) (s₀ m ρ)
    (fun r => Pipeline.RDat.FramePostR (cfgs 0) (fun c => (dats m 0 c).toRForget forgets0) tailWrites (V m) r ∧ r.2.sem = fun _ => 0) :=
  Pipeline.θ_run_frame_around_T_forget (Q' := _) cfgs (dats m) (0 : Fin 1) launch0 defs₀ Variants.none forgets0 tailWrites m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl)

/-- A buffer that is no window's array, unscoped and not written after the region, ends as the region found it. -/
theorem rest_mem (b : Ref sig .tc) (hb : b ∈ Pipeline.restRefs sig spec0) (hT : b ∉ tailWrites) : b ∈ Pipeline.restRefs sig spec0 \ tailWrites :=
  Finset.mem_sdiff.mpr ⟨hb, hT⟩

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (rest_mem _ (Pipeline.mem_restRefs_of main_arg0 (by decide) (by decide)) (by decide))).trans (V_main_arg0 m c),
     ((h.1 c).2 main_arg1 (rest_mem _ (Pipeline.mem_restRefs_of main_arg1 (by decide) (by decide)) (by decide))).trans (V_main_arg1 m c),
     ((h.1 c).2 main_arg2 (rest_mem _ (Pipeline.mem_restRefs_of main_arg2 (by decide) (by decide)) (by decide))).trans (V_main_arg2 m c),
     ((h.1 c).2 main_arg3 (rest_mem _ (Pipeline.mem_restRefs_of main_arg3 (by decide) (by decide)) (by decide))).trans (V_main_arg3 m c),
     ((h.1 c).2 main_arg4 (rest_mem _ (Pipeline.mem_restRefs_of main_arg4 (by decide) (by decide)) (by decide))).trans (V_main_arg4 m c)⟩, h.2⟩) (run_main m ρ)

end Cert.Kernel.Body

end
-- ==== Proof.RefFrame.lean ====
module

public import proofs.«01_k».proof.Proof.Gen.ReferenceIdeal.Run
public import Idealize.ShloMosaic.Lib.Quiescent

/-!
# The reference leaves its arguments alone

The reference has no kernel region: its operations run in the order they are written, around one loop of 6000 trips. None
of them writes an argument array, so each argument holds at the end what it held at the start. The same lists of written
buffers show that the loop leaves the sorted boxes alone and that the last stretches do not touch them either.
-/

@[expose] public section

set_option maxRecDepth 16384

noncomputable section

namespace Cert.ReferenceIdeal.Keep

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- The buffers `hostOps0_35` writes, in order. -/
abbrev tail35_W : List (Ref sig .tc) :=
  [main_v221]

/-- The buffers `hostOps0_36` writes, in order. -/
abbrev tail36_W : List (Ref sig .tc) :=
  [main_call18_v0, main_call18_v1_0, main_v222]

/-- The buffers `hostOps0_37` writes, in order. -/
abbrev tail37_W : List (Ref sig .tc) :=
  [main_v223]

/-- The buffers `hostOps0_38` writes, in order. -/
abbrev tail38_W : List (Ref sig .tc) :=
  [main_call19_c, main_call19_v0, main_call19_v1, main_call19_c_0, main_call19_v2, main_call19_v3,
   main_call19_v4, main_call19_v5, main_call19_c_1, main_call19_c_2, main_call19_v6, main_call19_v7,
   main_call19_v8, main_call19_v9, main_call19_v10, main_call19_v11, main_call19_c_3, main_call19_v12,
   main_call19_v13, main_call19_c_4, main_call19_v14, main_v224]

/-- The buffers `hostOps0_39` writes, in order. -/
abbrev tail39_W : List (Ref sig .tc) :=
  [main_v225, main_v226]

/-- The buffers `hostOps0_40` writes, in order. -/
abbrev tail40_W : List (Ref sig .tc) :=
  [main_call20_c, main_call20_v0, main_call20_v1, main_call20_c_0, main_call20_v2, main_call20_v3,
   main_call20_v4, main_call20_c_1, main_call20_c_2, main_call20_v5, main_call20_v6, main_call20_v7,
   main_call20_v8, main_call20_v9, main_call20_v10, main_call20_c_3, main_call20_v11, main_call20_v12,
   main_call20_v13, main_call20_cst, main_call20_v14, main_v227]

/-- The buffers `hostOps0_41` writes, in order. -/
abbrev tail41_W : List (Ref sig .tc) :=
  [main_v228, main_v229, main_v230, main_v231, main_v232, main_v233, main_v234]

/-- The five argument arrays. -/
abbrev argRefs : List (Ref sig .tc) := [main_arg0, main_arg1, main_arg2, main_arg3, main_arg4]

/-- Running `ops` changes none of the buffers in `rs`. -/
def Keeps (rs : List (Ref sig .tc)) (ops : List (HloOp τ sig (Elt F))) : Prop :=
  ∀ r ∈ rs, ∀ V, after ops V (Proc.devRef .tc r) = V (Proc.devRef .tc r)

/-- A stretch that writes only buffers of `W` changes none outside `W`. -/
theorem keeps_of {rs W : List (Ref sig .tc)} {ops : List (HloOp τ sig (Elt F))}
    (hW : ops.Forall fun op => op.writes ⊆ (W.map (Proc.devRef (τ := τ) .tc)).toFinset) (h : ∀ r ∈ rs, r ∉ W) :
    Keeps rs ops := fun r hr V => after_of_writes_sub ops V hW (h r hr)

/-- The same from the list of written buffers read off the stretch. -/
theorem keeps_of_map {rs : List (Ref sig .tc)} {ops : List (HloOp τ sig (Elt F))} (W : List (Ref sig .tc))
    (hW : ops.map HloOp.writes = W.map fun w => {Proc.devRef (τ := τ) .tc w}) (h : ∀ r ∈ rs, r ∉ W) :
    Keeps rs ops := keeps_of (forall_writes_sub_of_map hW) h

/-- Stretches run one after another change nothing that each of them leaves alone. -/
theorem afterL_keep {rs : List (Ref sig .tc)} : ∀ (items : List (List (HloOp τ sig (Elt F)))),
    (∀ ops ∈ items, Keeps rs ops) → ∀ r ∈ rs, ∀ V, afterL items V (Proc.devRef .tc r) = V (Proc.devRef .tc r)
  | [], _, _, _, _ => rfl
  | ops :: rest, h, r, hr, V => by
    rw [afterL_cons, afterL_keep rest (fun o ho => h o (List.mem_cons_of_mem _ ho)) r hr]
    exact h ops (List.mem_cons_self ..) r hr V

/-- A loop whose condition and body leave a buffer alone leaves it alone, whatever the number of trips. -/
theorem atTrip_keep {rs : List (Ref sig .tc)} {cond : List (HloOp τ sig (Elt F))} {body : List (List (HloOp τ sig (Elt F)))}
    (hc : Keeps rs cond) (hb : ∀ ops ∈ body, Keeps rs ops) (W₀ : Dev nD → Valuation τ sig (Elt F)) (c : Dev nD) :
    ∀ (k : ℕ), ∀ r ∈ rs, atTrip cond body W₀ k c (Proc.devRef .tc r) = W₀ c (Proc.devRef .tc r)
  | 0, _, _ => rfl
  | k + 1, r, hr => by
    rw [atTrip_succ, afterL_keep body hb r hr, hc r hr, atTrip_keep hc hb W₀ c k r hr]

set_option maxHeartbeats 4000000 in
/-- No stretch before the loop writes an argument. -/
theorem pre_keeps : ∀ ops ∈ preI (F := F), Keeps argRefs ops := by
  have p0 := keeps_of (rs := argRefs) (hostOps0_writes (F := F)) (by decide +kernel)
  have p1 := keeps_of (rs := argRefs) (hostOps0_1_writes (F := F)) (by decide +kernel)
  have p2 := keeps_of (rs := argRefs) (hostOps0_2_writes (F := F)) (by decide +kernel)
  have p3 := keeps_of (rs := argRefs) (hostOps0_3_writes (F := F)) (by decide +kernel)
  have p4 := keeps_of (rs := argRefs) (hostOps0_4_writes (F := F)) (by decide +kernel)
  have p5 := keeps_of (rs := argRefs) (hostOps0_5_writes (F := F)) (by decide +kernel)
  have p6 := keeps_of (rs := argRefs) (hostOps0_6_writes (F := F)) (by decide +kernel)
  have p7 := keeps_of (rs := argRefs) (hostOps0_7_writes (F := F)) (by decide +kernel)
  have p8 := keeps_of (rs := argRefs) (hostOps0_8_writes (F := F)) (by decide +kernel)
  have p9 := keeps_of (rs := argRefs) (hostOps0_9_writes (F := F)) (by decide +kernel)
  have p10 := keeps_of (rs := argRefs) (hostOps0_10_writes (F := F)) (by decide +kernel)
  have p11 := keeps_of (rs := argRefs) (hostOps0_11_writes (F := F)) (by decide +kernel)
  have p12 := keeps_of (rs := argRefs) (hostOps0_12_writes (F := F)) (by decide +kernel)
  have p13 := keeps_of (rs := argRefs) (hostOps0_13_writes (F := F)) (by decide +kernel)
  have p14 := keeps_of (rs := argRefs) (hostOps0_14_writes (F := F)) (by decide +kernel)
  have p15 := keeps_of (rs := argRefs) (hostOps0_15_writes (F := F)) (by decide +kernel)
  have p16 := keeps_of (rs := argRefs) (hostOps0_16_writes (F := F)) (by decide +kernel)
  have p17 := keeps_of (rs := argRefs) (hostOps0_17_writes (F := F)) (by decide +kernel)
  have p18 := keeps_of (rs := argRefs) (hostOps0_18_writes (F := F)) (by decide +kernel)
  have p19 := keeps_of (rs := argRefs) (hostOps0_19_writes (F := F)) (by decide +kernel)
  have p20 := keeps_of (rs := argRefs) (hostOps0_20_writes (F := F)) (by decide +kernel)
  have p21 := keeps_of (rs := argRefs) (hostOps0_21_writes (F := F)) (by decide +kernel)
  have p22 := keeps_of (rs := argRefs) (hostOps0_22_writes (F := F)) (by decide +kernel)
  have p23 := keeps_of (rs := argRefs) (hostOps0_23_writes (F := F)) (by decide +kernel)
  have p24 := keeps_of (rs := argRefs) (hostOps0_24_writes (F := F)) (by decide +kernel)
  have p25 := keeps_of (rs := argRefs) (hostOps0_25_writes (F := F)) (by decide +kernel)
  have p26 := keeps_of (rs := argRefs) (hostOps0_26_writes (F := F)) (by decide +kernel)
  have p27 := keeps_of (rs := argRefs) (hostOps0_27_writes (F := F)) (by decide +kernel)
  have p28 := keeps_of (rs := argRefs) (hostOps0_28_writes (F := F)) (by decide +kernel)
  have p29 := keeps_of (rs := argRefs) (hostOps0_29_writes (F := F)) (by decide +kernel)
  have p30 := keeps_of (rs := argRefs) (hostOps0_30_writes (F := F)) (by decide +kernel)
  have p31 := keeps_of (rs := argRefs) (hostOps0_31_writes (F := F)) (by decide +kernel)
  have p32 := keeps_of (rs := argRefs) (hostOps0_32_writes (F := F)) (by decide +kernel)
  have p33 := keeps_of (rs := argRefs) (hostOps0_33_writes (F := F)) (by decide +kernel)
  have p34 := keeps_of (rs := argRefs) (hostOps0_34_writes (F := F)) (by decide +kernel)
  simp only [preI, List.forall_mem_cons]
  exact ⟨p0, p1, p2, p3, p4, p5, p6, p7, p8, p9, p10, p11, p12, p13, p14, p15, p16, p17, p18, p19, p20, p21, p22, p23, p24, p25, p26, p27, p28, p29, p30, p31, p32, p33, p34, fun _ h => nomatch h⟩

/-- What the loop and the stretches after it leave alone: the arguments and the sorted boxes. -/
abbrev lateRefs : List (Ref sig .tc) := [main_arg0, main_arg1, main_arg2, main_arg3, main_arg4, main_v202]

theorem cond_keeps : Keeps lateRefs (condOps (F := F)) := keeps_of condOps_writes (by decide +kernel)

theorem body_keeps : ∀ ops ∈ bodyI (F := F), Keeps lateRefs ops := by
  have p0 := keeps_of (rs := lateRefs) (while0Ops0_writes (F := F)) (by decide +kernel)
  have p1 := keeps_of (rs := lateRefs) (while0Ops0_1_writes (F := F)) (by decide +kernel)
  have p2 := keeps_of (rs := lateRefs) (while0Ops0_2_writes (F := F)) (by decide +kernel)
  simp only [bodyI, List.forall_mem_cons]
  exact ⟨p0, p1, p2, fun _ h => nomatch h⟩

theorem post_keeps : ∀ ops ∈ postI (F := F), Keeps lateRefs ops := by
  have q35 := keeps_of_map (rs := lateRefs) (ops := hostOps0_35 (F := F)) tail35_W rfl (by decide +kernel)
  have q36 := keeps_of_map (rs := lateRefs) (ops := hostOps0_36 (F := F)) tail36_W rfl (by decide +kernel)
  have q37 := keeps_of_map (rs := lateRefs) (ops := hostOps0_37 (F := F)) tail37_W rfl (by decide +kernel)
  have q38 := keeps_of_map (rs := lateRefs) (ops := hostOps0_38 (F := F)) tail38_W rfl (by decide +kernel)
  have q39 := keeps_of_map (rs := lateRefs) (ops := hostOps0_39 (F := F)) tail39_W rfl (by decide +kernel)
  have q40 := keeps_of_map (rs := lateRefs) (ops := hostOps0_40 (F := F)) tail40_W rfl (by decide +kernel)
  have q41 := keeps_of_map (rs := lateRefs) (ops := hostOps0_41 (F := F)) tail41_W rfl (by decide +kernel)
  simp only [postI, List.forall_mem_cons]
  exact ⟨q35, q36, q37, q38, q39, q40, q41, fun _ h => nomatch h⟩

variable (m : (ℓ : Loc nD τ sig) → Buf (Elt F) ℓ) (ρ : Dev nD → PrngReg)

/-- At the end every argument holds what the launch memory held. -/
theorem final_arg (c : Dev nD) (r : Ref sig .tc) (hr : r ∈ argRefs) :
    finalContents condOps preI bodyI postI 6000 m c (Proc.devRef .tc r) = m ((c.tc : Thread nD τ).loc r) := by
  have hl : r ∈ lateRefs := by
    simp only [List.mem_cons] at hr ⊢; tauto
  rw [finalContents, afterL_keep _ post_keeps r hl, cond_keeps r hl, atTrip_keep cond_keeps body_keeps _ c _ r hl,
    entryContents, afterL_keep _ pre_keeps r hr]

/-- Every execution of the reference ends, with nothing outstanding and the arguments unchanged. -/
theorem frame : θ_run (defs (F := F)) (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) := by
  refine (θ_run _ _ _).mono (fun r h => ⟨fun c => ?_, sem_eq_zero_of_no_sems (by decide) _⟩) (run_fold m ρ)
  have g : ∀ x ∈ argRefs, (Proc.devRef .tc x : DevRef τ sig).isScoped = false →
      r.2.mem ((c.tc : Thread nD τ).loc x) = m ((c.tc : Thread nD τ).loc x) :=
    fun x hx hs => (h c x hs).trans (final_arg m c x hx)
  exact ⟨g _ (by simp) rfl, g _ (by simp) rfl, g _ (by simp) rfl, g _ (by simp) rfl, g _ (by simp) rfl⟩

end Cert.ReferenceIdeal.Keep

end
-- ==== Proof.Agree.lean ====
module

public import Idealize.ShloMosaic.Lib.StableHlo.Run

/-!
# Two programs whose buffers correspond by number

Two programs have buffers numbered in the order their operations write them. When operation `n` of the one applies the same
function to buffers of the same numbers as operation `n` of the other, equal contents below `n` give equal contents up to
and including `n`. `Pairs n ops ops' k` says this of two stretches, from number `n` on to number `k`.

The two programs declare their buffers in different tables, so that equality of contents is stated as `HEq`.
-/

@[expose] public section

noncomputable section

namespace Cert.Agree

open Idealize.ShloMosaic Idealize.ShloMosaic.TcCoe Idealize.ShloMosaic.StableHlo

variable {τ τ' : Topo} {sig sig' : RefSig} {Val : EltTy → Type}

/-- The two references are the device buffers of one number. -/
def Twin (r : Ref sig .tc) (r' : Ref sig' .tc) (n : ℕ) : Prop :=
  r.space = .hbm ∧ r'.space = .hbm ∧ r.idx.val = n ∧ r'.idx.val = n

/-- Buffers of one number below `n` have the same contents. -/
def Agree (n : ℕ) (V : Valuation τ sig Val) (V' : Valuation τ' sig' Val) : Prop :=
  ∀ i < n, ∀ (r : Ref sig .tc) (r' : Ref sig' .tc), Twin r r' i →
    HEq (V (Proc.devRef .tc r)) (V' (Proc.devRef .tc r'))

/-- The two operations carry agreement below `n` to agreement below `n + 1`. -/
def Pair (n : ℕ) (op : HloOp τ sig Val) (op' : HloOp τ' sig' Val) : Prop :=
  ∀ V V', Agree n V V' → Agree (n + 1) (op.result V) (op'.result V')

/-- Device buffers of one number are one buffer. -/
theorem eq_of_idx {r s : Ref sig .tc} (hr : r.space = .hbm) (hs : s.space = .hbm) (h : r.idx.val = s.idx.val) : r = s := by
  obtain ⟨sp, i, hi⟩ := r
  obtain ⟨sp', j, hj⟩ := s
  subst hr; subst hs
  obtain rfl : i = j := Fin.ext h
  rfl

/-- Operations that write only the two buffers of number `n`, and the same contents there, form a pair. -/
theorem pair_of {n : ℕ} {op : HloOp τ sig Val} {op' : HloOp τ' sig' Val} {y : Ref sig .tc} {y' : Ref sig' .tc}
    (hy : Twin y y' n)
    (ne : ∀ V (r : Ref sig .tc), r ≠ y → op.result V (Proc.devRef .tc r) = V (Proc.devRef .tc r))
    (ne' : ∀ V (r : Ref sig' .tc), r ≠ y' → op'.result V (Proc.devRef .tc r) = V (Proc.devRef .tc r))
    (h : ∀ V V', Agree n V V' → HEq (op.result V (Proc.devRef .tc y)) (op'.result V' (Proc.devRef .tc y'))) :
    Pair n op op' := fun V V' hV i hi r r' hr => by
  by_cases hin : i = n
  · subst hin
    obtain rfl : r = y := eq_of_idx hr.1 hy.1 (hr.2.2.1.trans hy.2.2.1.symm)
    obtain rfl : r' = y' := eq_of_idx hr.2.1 hy.2.1 (hr.2.2.2.trans hy.2.2.2.symm)
    exact h V V' hV
  · rw [ne V r, ne' V' r']
    · exact hV i (by omega) r r' hr
    · rintro rfl; exact hin (hr.2.2.2.symm.trans hy.2.2.2)
    · rintro rfl; exact hin (hr.2.2.1.symm.trans hy.2.2.1)

/-- Equal functions at equal arguments. -/
theorem heq_app {A A' B B' : Type} {f : A → B} {f' : A' → B'} {x : A} {x' : A'} (hB : B = B') (hf : HEq f f')
    (hx : HEq x x') : HEq (f x) (f' x') := by
  obtain rfl := type_eq_of_heq hx
  obtain rfl := hB
  cases hf; cases hx; rfl

theorem heq_app₂ {A A' B B' C C' : Type} {f : A → B → C} {f' : A' → B' → C'} {x : A} {x' : A'} {y : B} {y' : B'}
    (hC : C = C') (hf : HEq f f') (hx : HEq x x') (hy : HEq y y') : HEq (f x y) (f' x' y') := by
  obtain rfl := type_eq_of_heq hx
  obtain rfl := type_eq_of_heq hy
  obtain rfl := hC
  cases hf; cases hx; cases hy; rfl

theorem heq_app₃ {A A' B B' C C' D D' : Type} {f : A → B → C → D} {f' : A' → B' → C' → D'} {x : A} {x' : A'} {y : B}
    {y' : B'} {z : C} {z' : C'} (hD : D = D') (hf : HEq f f') (hx : HEq x x') (hy : HEq y y') (hz : HEq z z') :
    HEq (f x y z) (f' x' y' z') := by
  obtain rfl := type_eq_of_heq hx
  obtain rfl := type_eq_of_heq hy
  obtain rfl := type_eq_of_heq hz
  obtain rfl := hD
  cases hf; cases hx; cases hy; cases hz; rfl

theorem pair_nullary {n : ℕ} {y : Ref sig .tc} {y' : Ref sig' .tc} {v : y.ty.Contents Val} {v' : y'.ty.Contents Val} {hy hy'}
    (ty : Twin y y' n) (hv : HEq v v') : Pair n (nullary (τ := τ) y v hy) (nullary (τ := τ') y' v' hy') :=
  pair_of ty (fun V _ => nullary_result_ne y v hy V) (fun V _ => nullary_result_ne y' v' hy' V) fun V V' _ => by
    rw [nullary_result y v hy V, nullary_result y' v' hy' V']; exact hv

theorem pair_unary {n i : ℕ} {x y : Ref sig .tc} {x' y' : Ref sig' .tc} {f : x.ty.Contents Val → y.ty.Contents Val}
    {f' : x'.ty.Contents Val → y'.ty.Contents Val} {hx hy hx' hy'}
    (ty : Twin y y' n) (tx : Twin x x' i) (hi : i < n) (hB : y.ty.Contents Val = y'.ty.Contents Val) (hf : HEq f f') :
    Pair n (unary (τ := τ) x y f hx hy) (unary (τ := τ') x' y' f' hx' hy') :=
  pair_of ty (fun V _ => unary_result_ne x y f hx hy V) (fun V _ => unary_result_ne x' y' f' hx' hy' V) fun V V' h => by
    rw [unary_result x y f hx hy V, unary_result x' y' f' hx' hy' V']
    exact heq_app hB hf (h i hi x x' tx)

theorem pair_binary {n i j : ℕ} {a b y : Ref sig .tc} {a' b' y' : Ref sig' .tc}
    {f : a.ty.Contents Val → b.ty.Contents Val → y.ty.Contents Val}
    {f' : a'.ty.Contents Val → b'.ty.Contents Val → y'.ty.Contents Val} {ha hb hy ha' hb' hy'}
    (ty : Twin y y' n) (ta : Twin a a' i) (tb : Twin b b' j) (hi : i < n) (hj : j < n)
    (hB : y.ty.Contents Val = y'.ty.Contents Val) (hf : HEq f f') :
    Pair n (binary (τ := τ) a b y f ha hb hy) (binary (τ := τ') a' b' y' f' ha' hb' hy') :=
  pair_of ty (fun V _ => binary_result_ne a b y f ha hb hy V) (fun V _ => binary_result_ne a' b' y' f' ha' hb' hy' V) fun V V' h => by
    rw [binary_result a b y f ha hb hy V, binary_result a' b' y' f' ha' hb' hy' V']
    exact heq_app₂ hB hf (h i hi a a' ta) (h j hj b b' tb)

theorem pair_ternary {n i j k : ℕ} {c a b y : Ref sig .tc} {c' a' b' y' : Ref sig' .tc}
    {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (ty : Twin y y' n) (tc : Twin c c' i) (ta : Twin a a' j) (tb : Twin b b' k) (hi : i < n) (hj : j < n) (hk : k < n)
    (hB : y.ty.Contents Val = y'.ty.Contents Val) (hf : HEq f f') :
    Pair n (ternary (τ := τ) c a b y f hc ha hb hy) (ternary (τ := τ') c' a' b' y' f' hc' ha' hb' hy') :=
  pair_of ty (fun V _ => ternary_result_ne a b c y f hc ha hb hy V) (fun V _ => ternary_result_ne a' b' c' y' f' hc' ha' hb' hy' V)
    fun V V' h => by
    rw [ternary_result c a b y f hc ha hb hy V, ternary_result c' a' b' y' f' hc' ha' hb' hy' V']
    exact heq_app₃ hB hf (h i hi c c' tc) (h j hj a a' ta) (h k hk b b' tb)

theorem heq_reshape {T T' U U' : BufTy} (hT : T = T') (hU : U = U') {he : T.elt = U.elt} {he' : T'.elt = U'.elt}
    {hn : T.shape.ShapeCasts U.shape} {hn' : T'.shape.ShapeCasts U'.shape} {v : T.Contents Val} {v' : T'.Contents Val}
    (hv : HEq v v') :
    HEq (fun i => he ▸ shapeCast U.shape v hn i : U.Contents Val) (fun i => he' ▸ shapeCast U'.shape v' hn' i : U'.Contents Val) := by
  subst hT; subst hU; cases hv; rfl

theorem pair_reshape {n i : ℕ} {x y : Ref sig .tc} {x' y' : Ref sig' .tc} {he hn hx hy he' hn' hx' hy'}
    (ty : Twin y y' n) (tx : Twin x x' i) (hi : i < n) (hT : x.ty = x'.ty) (hU : y.ty = y'.ty) :
    Pair n (reshape (τ := τ) (Val := Val) x y he hn hx hy) (reshape (τ := τ') (Val := Val) x' y' he' hn' hx' hy') :=
  pair_of ty (fun V _ => reshape_result_ne x y he hn hx hy V) (fun V _ => reshape_result_ne x' y' he' hn' hx' hy' V) fun V V' h => by
    rw [reshape_result x y he hn hx hy V, reshape_result x' y' he' hn' hx' hy' V']
    exact heq_reshape hT hU (h i hi x x' tx)

theorem pair_nary {n k : ℕ} {xs : Fin k → Ref sig .tc} {xs' : Fin k → Ref sig' .tc} {y : Ref sig .tc} {y' : Ref sig' .tc}
    {f : ((j : Fin k) → (xs j).ty.Contents Val) → y.ty.Contents Val}
    {f' : ((j : Fin k) → (xs' j).ty.Contents Val) → y'.ty.Contents Val} {hxs hy hxs' hy'}
    (ty : Twin y y' n) (tx : ∀ j, ∃ i < n, Twin (xs j) (xs' j) i)
    (hf : ∀ u u', (∀ j, HEq (u j) (u' j)) → HEq (f u) (f' u')) :
    Pair n (nary (τ := τ) xs y f hxs hy) (nary (τ := τ') xs' y' f' hxs' hy') :=
  pair_of ty (fun V _ => nary_result_ne y xs f hxs hy V) (fun V _ => nary_result_ne y' xs' f' hxs' hy' V) fun V V' h => by
    rw [nary_result xs y f hxs hy V, nary_result xs' y' f' hxs' hy' V']
    refine hf _ _ fun j => ?_
    obtain ⟨i, hi, t⟩ := tx j
    exact h i hi _ _ t

/-- The four buffers of the two operations have the same numbers, below `n`. -/
theorem twins4 {n : ℕ} {xs : Fin 4 → Ref sig .tc} {xs' : Fin 4 → Ref sig' .tc}
    (h0 : ∃ i < n, Twin (xs 0) (xs' 0) i) (h1 : ∃ i < n, Twin (xs 1) (xs' 1) i)
    (h2 : ∃ i < n, Twin (xs 2) (xs' 2) i) (h3 : ∃ i < n, Twin (xs 3) (xs' 3) i) : ∀ j, ∃ i < n, Twin (xs j) (xs' j) i
  | ⟨0, _⟩ => h0 | ⟨1, _⟩ => h1 | ⟨2, _⟩ => h2 | ⟨3, _⟩ => h3

/-- The two stretches apply the same operations to the buffers from number `n` on, and stop before number `k`. -/
inductive Pairs : ℕ → List (HloOp τ sig Val) → List (HloOp τ' sig' Val) → ℕ → Prop
  | nil (n : ℕ) : Pairs n [] [] n
  | cons {n k : ℕ} {op : HloOp τ sig Val} {op' : HloOp τ' sig' Val} {ops : List (HloOp τ sig Val)}
      {ops' : List (HloOp τ' sig' Val)} : Pair n op op' → Pairs (n + 1) ops ops' k → Pairs n (op :: ops) (op' :: ops') k

/-- Two such stretches run one after the other. -/
theorem Pairs.append {n k l : ℕ} {a b : List (HloOp τ sig Val)} {a' b' : List (HloOp τ' sig' Val)} (h : Pairs n a a' k)
    (g : Pairs k b b' l) : Pairs n (a ++ b) (a' ++ b') l := by
  induction h with
  | nil n => exact g
  | cons p _ ih => exact .cons p (ih g)

/-- Equal contents before two such stretches are equal contents after them. -/
theorem Pairs.agree {n k : ℕ} {a : List (HloOp τ sig Val)} {a' : List (HloOp τ' sig' Val)} (h : Pairs n a a' k) :
    ∀ V V', Agree n V V' → Agree k (after a V) (after a' V') := by
  induction h with
  | nil n => exact fun V V' h => h
  | cons p _ ih => intro V V' h; rw [after_cons, after_cons]; exact ih _ _ (p V V' h)

end Cert.Agree

end
-- ==== Proof.Prefix.lean ====
module

public import proofs.«01_k».proof.Proof.Agree
public import proofs.«01_k».proof.Proof.Gen.KernelIdeal.Frame
public import proofs.«01_k».proof.Proof.Gen.ReferenceIdeal.Run

/-!
# Up to the sorted boxes the two programs compute the same

The kernel's host program and the reference begin with the same operations: decoding, the two proposal stages and the sort.
-/

@[expose] public section

set_option maxRecDepth 16384

noncomputable section

namespace Cert.Agree

open Idealize.ShloMosaic Idealize.ShloMosaic.TcCoe Idealize.ShloMosaic.StableHlo

variable {F : FTy → Type} [FloatOps F]

set_option maxHeartbeats 8000000 in
/-- Stretch by stretch the operations before the sorted boxes are the same in the two programs, at the same numbers. -/
theorem stretches :
    Pairs 5 (Cert.KernelIdeal.Gen.hostOps0 (F := F)) (Cert.ReferenceIdeal.Gen.hostOps0 (F := F)) 63
    ∧ Pairs 63 (Cert.KernelIdeal.Gen.hostOps0_1 (F := F)) (Cert.ReferenceIdeal.Gen.hostOps0_1 (F := F)) 69
    ∧ Pairs 69 (Cert.KernelIdeal.Gen.hostOps0_2 (F := F)) (Cert.ReferenceIdeal.Gen.hostOps0_2 (F := F)) 110
    ∧ Pairs 110 (Cert.KernelIdeal.Gen.hostOps0_3 (F := F)) (Cert.ReferenceIdeal.Gen.hostOps0_3 (F := F)) 116
    ∧ Pairs 116 (Cert.KernelIdeal.Gen.hostOps0_4 (F := F)) (Cert.ReferenceIdeal.Gen.hostOps0_4 (F := F)) 140
    ∧ Pairs 140 (Cert.KernelIdeal.Gen.hostOps0_5 (F := F)) (Cert.ReferenceIdeal.Gen.hostOps0_5 (F := F)) 157
    ∧ Pairs 157 (Cert.KernelIdeal.Gen.hostOps0_6 (F := F)) (Cert.ReferenceIdeal.Gen.hostOps0_6 (F := F)) 158
    ∧ Pairs 158 (Cert.KernelIdeal.Gen.hostOps0_7 (F := F)) (Cert.ReferenceIdeal.Gen.hostOps0_7 (F := F)) 180
    ∧ Pairs 180 (Cert.KernelIdeal.Gen.hostOps0_8 (F := F)) (Cert.ReferenceIdeal.Gen.hostOps0_8 (F := F)) 185
    ∧ Pairs 185 (Cert.KernelIdeal.Gen.hostOps0_9 (F := F)) (Cert.ReferenceIdeal.Gen.hostOps0_9 (F := F)) 207
    ∧ Pairs 207 (Cert.KernelIdeal.Gen.hostOps0_10 (F := F)) (Cert.ReferenceIdeal.Gen.hostOps0_10 (F := F)) 209
    ∧ Pairs 209 (Cert.KernelIdeal.Gen.hostOps0_11 (F := F)) (Cert.ReferenceIdeal.Gen.hostOps0_11 (F := F)) 231
    ∧ Pairs 231 (Cert.KernelIdeal.Gen.hostOps0_12 (F := F)) (Cert.ReferenceIdeal.Gen.hostOps0_12 (F := F)) 233
    ∧ Pairs 233 (Cert.KernelIdeal.Gen.hostOps0_13 (F := F)) (Cert.ReferenceIdeal.Gen.hostOps0_13 (F := F)) 255
    ∧ Pairs 255 (Cert.KernelIdeal.Gen.hostOps0_14 (F := F)) (Cert.ReferenceIdeal.Gen.hostOps0_14 (F := F)) 278
    ∧ Pairs 278 (Cert.KernelIdeal.Gen.hostOps0_15 (F := F)) (Cert.ReferenceIdeal.Gen.hostOps0_15 (F := F)) 295
    ∧ Pairs 295 (Cert.KernelIdeal.Gen.hostOps0_16 (F := F)) (Cert.ReferenceIdeal.Gen.hostOps0_16 (F := F)) 296
    ∧ Pairs 296 (Cert.KernelIdeal.Gen.hostOps0_17 (F := F)) (Cert.ReferenceIdeal.Gen.hostOps0_17 (F := F)) 318
    ∧ Pairs 318 (Cert.KernelIdeal.Gen.hostOps0_18 (F := F)) (Cert.ReferenceIdeal.Gen.hostOps0_18 (F := F)) 323
    ∧ Pairs 323 (Cert.KernelIdeal.Gen.hostOps0_19 (F := F)) (Cert.ReferenceIdeal.Gen.hostOps0_19 (F := F)) 345
    ∧ Pairs 345 (Cert.KernelIdeal.Gen.hostOps0_20 (F := F)) (Cert.ReferenceIdeal.Gen.hostOps0_20 (F := F)) 347
    ∧ Pairs 347 (Cert.KernelIdeal.Gen.hostOps0_21 (F := F)) (Cert.ReferenceIdeal.Gen.hostOps0_21 (F := F)) 369
    ∧ Pairs 369 (Cert.KernelIdeal.Gen.hostOps0_22 (F := F)) (Cert.ReferenceIdeal.Gen.hostOps0_22 (F := F)) 371
    ∧ Pairs 371 (Cert.KernelIdeal.Gen.hostOps0_23 (F := F)) (Cert.ReferenceIdeal.Gen.hostOps0_23 (F := F)) 393
    ∧ Pairs 393 (Cert.KernelIdeal.Gen.hostOps0_24 (F := F)) (Cert.ReferenceIdeal.Gen.hostOps0_24 (F := F)) 427
    ∧ Pairs 427 (Cert.KernelIdeal.Gen.hostOps0_25 (F := F)) (Cert.ReferenceIdeal.Gen.hostOps0_25 (F := F)) 432
    ∧ Pairs 432 (Cert.KernelIdeal.Gen.hostOps0_26 (F := F)) (Cert.ReferenceIdeal.Gen.hostOps0_26 (F := F)) 438
    ∧ Pairs 438 (Cert.KernelIdeal.Gen.hostOps0_27 (F := F)) (Cert.ReferenceIdeal.Gen.hostOps0_27 (F := F)) 443
    ∧ Pairs 443 (Cert.KernelIdeal.Gen.hostOps0_28 (F := F)) (Cert.ReferenceIdeal.Gen.hostOps0_28 (F := F)) 449
    ∧ Pairs 449 (Cert.KernelIdeal.Gen.hostOps0_29 (F := F)) (Cert.ReferenceIdeal.Gen.hostOps0_29 (F := F)) 454
    ∧ Pairs 454 (Cert.KernelIdeal.Gen.hostOps0_30 (F := F)) (Cert.ReferenceIdeal.Gen.hostOps0_30 (F := F)) 460
    ∧ Pairs 460 (Cert.KernelIdeal.Gen.hostOps0_31 (F := F)) (Cert.ReferenceIdeal.Gen.hostOps0_31 (F := F)) 465
    ∧ Pairs 465 (Cert.KernelIdeal.Gen.hostOps0_32 (F := F)) (Cert.ReferenceIdeal.Gen.hostOps0_32 (F := F)) 473
    ∧ Pairs 473 (Cert.KernelIdeal.Gen.hostOps0_33 (F := F)) (Cert.ReferenceIdeal.Gen.hostOps0_33 (F := F)) 495 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    repeat' first
      | exact Pairs.nil _
      | refine Pairs.cons ?_ ?_
      | ((with_reducible apply pair_nullary); exact ⟨rfl, rfl, rfl, rfl⟩; exact HEq.rfl)
      | ((with_reducible apply pair_unary); exact ⟨rfl, rfl, rfl, rfl⟩; exact ⟨rfl, rfl, rfl, rfl⟩; decide; exact rfl; exact HEq.rfl)
      | ((with_reducible apply pair_reshape); exact ⟨rfl, rfl, rfl, rfl⟩; exact ⟨rfl, rfl, rfl, rfl⟩; decide; exact rfl; exact rfl)
      | ((with_reducible apply pair_binary); exact ⟨rfl, rfl, rfl, rfl⟩; exact ⟨rfl, rfl, rfl, rfl⟩; exact ⟨rfl, rfl, rfl, rfl⟩; decide; decide; exact rfl; exact HEq.rfl)
      | ((with_reducible apply pair_ternary); exact ⟨rfl, rfl, rfl, rfl⟩; exact ⟨rfl, rfl, rfl, rfl⟩; exact ⟨rfl, rfl, rfl, rfl⟩; exact ⟨rfl, rfl, rfl, rfl⟩; decide; decide; decide; exact rfl; exact HEq.rfl)
      | ((with_reducible apply pair_nary); exact ⟨rfl, rfl, rfl, rfl⟩
         exact twins4 ⟨_, by decide, rfl, rfl, rfl, rfl⟩ ⟨_, by decide, rfl, rfl, rfl, rfl⟩ ⟨_, by decide, rfl, rfl, rfl, rfl⟩ ⟨_, by decide, rfl, rfl, rfl, rfl⟩
         intro u u' h
         have e0 := eq_of_heq (h 0)
         have e1 := eq_of_heq (h 1)
         have e2 := eq_of_heq (h 2)
         have e3 := eq_of_heq (h 3)
         rw [e0, e1, e2, e3])

end Cert.Agree

end
-- ==== Proof.Payloads.lean ====
/-
  The suppression kernel's arithmetic over the extended reals, entry by entry.
-/
module

public import proofs.«01_k».proof.Proof.Body
public import Idealize.ShloMosaic.Lib.Pointwise

@[expose] public section

set_option maxRecDepth 16384

noncomputable section

namespace Cert.Nms

open Idealize.ShloMosaic

/-- The overlap of two boxes over the area of their union, pixel extents inclusive. -/
def iou (a b : Fin 8 → EReal) : EReal :=
  Ideal.div
    (max 0 (min (a 2) (b 2) - max (a 0) (b 0) + 1) * max 0 (min (a 3) (b 3) - max (a 1) (b 1) + 1))
    ((a 2 - a 0 + 1) * (a 3 - a 1 + 1) + (b 2 - b 0 + 1) * (b 3 - b 1 + 1)
      - max 0 (min (a 2) (b 2) - max (a 0) (b 0) + 1) * max 0 (min (a 3) (b 3) - max (a 1) (b 1) + 1))

/-- The overlap above which a box suppresses another. -/
def thr : EReal := Ideal.ofBits .f32 1060320051#32

end Cert.Nms

namespace Cert.KernelIdeal.Body

open Cert.KernelIdeal Cert.KernelIdeal.Gen Cert.Nms
open Idealize.ShloMosaic
open scoped Classical

/-- Box `i` of a block laid out one box per row. -/
def colBox (b : Vec Ideal S1x1x128x8 .f32) (i : Fin 128) : Fin 8 → EReal := fun c => b (ix4 0 0 i c)

/-- Box `j` of a block laid out one box per lane. -/
def rowBox (r : Vec Ideal S1x1x8x128 .f32) (j : Fin 128) : Fin 8 → EReal := fun c => r (ix4 0 0 c j)

theorem bit_apply (p : Prop) [Decidable p] :
    FloatOps.sitofp (F := Ideal) .f32 (BitVec.setWidth 32 (BitVec.ofBool (decide p))) = (if p then (1 : EReal) else 0) := by
  by_cases h : p
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    norm_num

theorem toInt_small (i : ℕ) (h : i < 2147483648) : (BitVec.ofNat 32 i).toInt = i := by
  rw [BitVec.toInt_ofNat', Int.bmod_eq_of_le] <;> omega

theorem slt_small (i j : ℕ) (hi : i < 2147483648) (hj : j < 2147483648) :
    IntOp.cmpi .slt (BitVec.ofNat 32 i) (BitVec.ofNat 32 j) = BitVec.ofBool (decide (i < j)) := by
  show BitVec.ofBool (BitVec.slt _ _) = _
  unfold BitVec.slt
  rw [toInt_small i hi, toInt_small j hj]
  simp

theorem sle_small (i j : ℕ) (hi : i < 2147483648) (hj : j < 2147483648) :
    IntOp.cmpi .sle (BitVec.ofNat 32 i) (BitVec.ofNat 32 j) = BitVec.ofBool (decide (i ≤ j)) := by
  show BitVec.ofBool (BitVec.sle _ _) = _
  unfold BitVec.sle
  rw [toInt_small i hi, toInt_small j hj]
  simp

theorem sitofp_small (i : ℕ) (h : i < 2147483648) : FloatOps.sitofp (F := Ideal) .f32 (BitVec.ofNat 32 i) = (((i : ℝ)) : EReal) := by
  show (((BitVec.ofNat 32 i).toInt : ℝ) : EReal) = _
  rw [toInt_small i h]
  norm_num

/-- One block against another: which boxes of the earlier one suppress which of the later one. -/
theorem pay6_apply (r : Vec Ideal S1x1x8x128 .f32) (b : Vec Ideal S1x1x128x8 .f32) (i j : Fin 128) :
    k0_pay6 (k0_pay9 r) (k0_pay10 r) (k0_pay11 r) (k0_pay12 r) (k0_pay13 r) b (ix2 i j)
      = if thr < iou (colBox b i) (rowBox r j) then (1 : EReal) else 0 := by
  pointwise [k0_pay6, k0_pay9, k0_pay10, k0_pay11, k0_pay12, k0_pay13, k0_pay8]
  exact bit_apply (thr < iou (colBox b i) (rowBox r j))

/-- Within a block: which boxes suppress which later ones. -/
theorem maskOf_apply (r : Vec Ideal S1x1x8x128 .f32) (b : Vec Ideal S1x1x128x8 .f32) (i j : Fin 128) :
    maskOf r b (ix2 i j) = (if thr < iou (colBox b i) (rowBox r j) then (1 : EReal) else 0) * (if i.1 < j.1 then 1 else 0) := by
  pointwise [maskOf, k0_pay2, k0_pay9, k0_pay10, k0_pay11, k0_pay12, k0_pay13, k0_pay8, k0_pay23, k0_pay19, k0_pay20, k0_pay21, k0_pay22, k0_pay14, k0_pay15, k0_pay16, k0_pay17, k0_pay18]
  rw [slt_small _ _ (by omega) (by omega), bit_apply (i.1 < j.1)]
  exact congrArg (· * _) (bit_apply (thr < iou (colBox b i) (rowBox r j)))

/-- The running maximum starts at zero. -/
theorem pay24_apply (j : Fin 128) : k0_pay24 (F := Ideal) (ix2 0 j) = (0 : EReal) := by
  pointwise [k0_pay24]

/-- The running maximum takes a block's weighted sum. -/
theorem pay25_apply (a : FVec Ideal S1x128 .f32) (M : FVec Ideal S128x128 .f32) (k : Vec Ideal S1x128 .f32) (j : Fin 128) :
    k0_pay25 a M k (ix2 0 j) = max (a (ix2 0 j)) (∑ x : Fin 128, k (ix2 0 x) * M (ix2 x j)) := by
  pointwise [k0_pay25]

/-- The kept boxes of a block are those with a flag of zero. -/
theorem pay29_apply (a : FVec Ideal S1x128 .f32) (j : Fin 128) :
    k0_pay29 a (ix2 0 j) = if 0 < a (ix2 0 j) then (0 : EReal) else 1 := by
  pointwise [k0_pay29, k0_pay28]

theorem pay28_apply (a : FVec Ideal S1x128 .f32) (j : Fin 128) :
    k0_pay28 a (ix2 0 j) = if 0 < a (ix2 0 j) then (0 : EReal) else 1 := by
  pointwise [k0_pay28]

/-- Their running count. -/
theorem pay30_apply (a : FVec Ideal S1x128 .f32) (j : Fin 128) :
    k0_pay30 k0_pay3 a (ix2 0 j) = ∑ x : Fin 128, (if 0 < a (ix2 0 x) then (0 : EReal) else 1) * (if x.1 ≤ j.1 then 1 else 0) := by
  pointwise [k0_pay30, k0_pay28, k0_pay3]
  refine Finset.sum_congr rfl fun x _ => ?_
  rw [sle_small _ _ (by omega) (by omega), bit_apply (x.1 ≤ j.1)]

/-- Their count. -/
theorem pay5_apply (a : FVec Ideal S1x128 .f32) : k0_pay5 a = ∑ x : Fin 128, a (ix2 0 x) := by
  pointwise [k0_pay5]
  simp

/-- The selection takes the boxes of a block whose row number is the entry's. -/
theorem pay4_apply (k s : FVec Ideal S1x128 .f32) (c : Ideal .f32) (b : Vec Ideal S1x1x128x8 .f32) (o : Vec Ideal S1x304x8 .f32) (i : Fin 304) (j : Fin 8) :
    k0_pay4 k s c b o (ix3 0 i j) = o (ix3 0 i j)
      + ∑ x : Fin 128, (if (((i.1 : ℝ)) : EReal) = (if 0 < k (ix2 0 x) then c + s (ix2 0 x) - 1 else Ideal.ofBits .f32 3212836864#32) then (1 : EReal) else 0) * colBox b x j := by
  pointwise [k0_pay4]
  refine congrArg (_ + ·) (Finset.sum_congr rfl fun x _ => ?_)
  rw [bit_apply, sitofp_small _ (by omega)]
  rfl

theorem pay1_apply (i : Fin 304) (j : Fin 8) : k0_pay1 (F := Ideal) (ix3 0 i j) = (0 : EReal) := by
  pointwise [k0_pay1]

/-- One step of the pass within a block. -/
theorem pay27_apply (a : FVec Ideal S1x128 .f32) (t : Fin k0_t4_loop.trips) (k : Vec Ideal S1x128 .f32) (j : Fin 128) (ht : t.1 < 128) :
    k0_pay27 (iota .tc S1x128 32 [1] iota_S1x128_d1_w32) t a k (ix2 0 j)
      = max (a (ix2 0 j)) (k (ix2 0 j) * if 0 < a (ix2 0 ⟨t.1, ht⟩) then (0 : EReal) else 1) := by
  pointwise [k0_pay27]
  have e : ∀ x : Fin 128, Scalar.select (IntOp.cmpi .eq (BitVec.ofNat 32 x.1) (Scf.iv 0#32 1#32 t.1)) (a (ix2 0 x)) (0 : EReal)
      = if x = ⟨t.1, ht⟩ then a (ix2 0 x) else 0 := fun x => by
    have hx := x.2
    have h1 : Scf.iv 0#32 1#32 t.1 = BitVec.ofNat 32 t.1 := by unfold Scf.iv; simp
    have h2 : (BitVec.ofNat 32 x.1 == BitVec.ofNat 32 t.1) = decide (x = ⟨t.1, ht⟩) := by
      rw [Bool.eq_iff_iff, beq_iff_eq, decide_eq_true_iff, Fin.ext_iff]
      refine ⟨fun h => ?_, fun h => by rw [h]⟩
      have := congrArg BitVec.toNat h
      rw [BitVec.toNat_ofNat, BitVec.toNat_ofNat, Nat.mod_eq_of_lt (by omega), Nat.mod_eq_of_lt (by omega)] at this
      exact this
    rw [h1]
    show Scalar.select (BitVec.ofBool (BitVec.ofNat 32 x.1 == BitVec.ofNat 32 t.1)) _ _ = _
    rw [h2]
    by_cases h : x = ⟨t.1, ht⟩
    · rw [if_pos h, decide_eq_true h]; rfl
    · rw [if_neg h, decide_eq_false h]; rfl
  have e' : (0 < Finset.fold max (Ideal.ofBits .f32 4286578688#32)
      (fun x : Fin 128 => Scalar.select (IntOp.cmpi .eq (BitVec.ofNat 32 x.1) (Scf.iv 0#32 1#32 t.1)) (a (ix2 0 x)) (0 : EReal)) Finset.univ)
      ↔ 0 < a (ix2 0 ⟨t.1, ht⟩) := by
    rw [Finset.lt_fold_max]
    constructor
    · rintro (h | ⟨x, _, h⟩)
      · exact absurd h (by simp [Ideal.ofBits, Ideal.ieee])
      · rw [e x] at h
        by_cases hx : x = ⟨t.1, ht⟩
        · rw [if_pos hx, hx] at h; exact h
        · rw [if_neg hx] at h; exact absurd h (lt_irrefl _)
    · intro h
      refine Or.inr ⟨⟨t.1, ht⟩, Finset.mem_univ _, ?_⟩
      rw [e, if_pos rfl]; exact h
  exact congrArg (fun z => max (a (ix2 0 j)) (k (ix2 0 j) * z)) (if_congr e' rfl rfl)

end Cert.KernelIdeal.Body

end
-- ==== Proof.Nms.lean ====
/-
  Greedy suppression, as mathematics: which boxes are kept, how many were kept before one, and the row of the
  selection a kept box goes to. Nothing here speaks of a program.
-/
module

public import Idealize.ShloMosaic.PureOps.Ideal

@[expose] public section

noncomputable section

namespace Cert.Nms

open Finset
open scoped Classical

variable (sup : ℕ → ℕ → Prop)

/-- A box is kept when no kept box before it suppresses it. -/
def kept (t : ℕ) : Prop := ∀ i : Fin t, kept i.1 → ¬ sup i.1 t
termination_by t
decreasing_by exact i.2

theorem kept_iff (t : ℕ) : kept sup t ↔ ∀ i < t, kept sup i → ¬ sup i t := by
  rw [kept]
  exact ⟨fun h i hi => h ⟨i, hi⟩, fun h i => h i.1 i.2⟩

/-- How many boxes before `t` are kept. -/
def rank (t : ℕ) : ℕ := ((range t).filter (kept sup)).card

theorem rank_zero : rank sup 0 = 0 := by simp [rank]

theorem rank_succ (t : ℕ) : rank sup (t + 1) = rank sup t + if kept sup t then 1 else 0 := by
  unfold rank
  rw [range_add_one, filter_insert]
  split
  · rw [card_insert_of_notMem (by simp)]
  · rfl

theorem rank_mono {s t : ℕ} (h : s ≤ t) : rank sup s ≤ rank sup t := by
  unfold rank
  exact card_le_card (filter_subset_filter _ (range_subset_range.2 h))

theorem rank_le (t : ℕ) : rank sup t ≤ t := by
  unfold rank
  exact (card_filter_le _ _).trans (by simp)

/-- A kept box is counted from the next one on. -/
theorem rank_lt {s t : ℕ} (h : s < t) (hs : kept sup s) : rank sup s < rank sup t := by
  have := rank_mono sup (show s + 1 ≤ t from h)
  rw [rank_succ, if_pos hs] at this
  omega

/-- Two kept boxes of one rank are one box. -/
theorem rank_inj {s t : ℕ} (hs : kept sup s) (ht : kept sup t) (h : rank sup s = rank sup t) : s = t := by
  rcases lt_trichotomy s t with hl | he | hg
  · exact absurd h (rank_lt sup hl hs).ne
  · exact he
  · exact absurd h (rank_lt sup hg ht).ne'

/-- Every number below the count of kept boxes is the rank of one. -/
theorem exists_rank {n r : ℕ} (h : r < rank sup n) : ∃ t < n, kept sup t ∧ rank sup t = r := by
  induction n with
  | zero => rw [rank_zero] at h; omega
  | succ n ih =>
    by_cases h' : r < rank sup n
    · obtain ⟨t, ht, hk⟩ := ih h'
      exact ⟨t, by omega, hk⟩
    · rw [rank_succ] at h
      by_cases hk : kept sup n
      · rw [if_pos hk] at h
        exact ⟨n, by omega, hk, by omega⟩
      · rw [if_neg hk] at h
        omega

/-- Entry `r` of the selection among the first `n` boxes. -/
def rows (X : ℕ → EReal) (n r : ℕ) : EReal := ∑ t ∈ range n, if kept sup t ∧ rank sup t = r then X t else 0

theorem rows_zero (X : ℕ → EReal) (r : ℕ) : rows sup X 0 r = 0 := by simp [rows]

theorem rows_of_kept (X : ℕ → EReal) {n r t : ℕ} (ht : t < n) (hk : kept sup t) (hr : rank sup t = r) : rows sup X n r = X t := by
  unfold rows
  rw [sum_eq_single t]
  · rw [if_pos ⟨hk, hr⟩]
  · intro b _ hb
    rw [if_neg]
    rintro ⟨h1, h2⟩
    exact hb (rank_inj sup h1 hk (h2.trans hr.symm))
  · intro h
    exact absurd (mem_range.2 ht) h

/-- A row past the count is zero. -/
theorem rows_of_le (X : ℕ → EReal) {n r : ℕ} (h : rank sup n ≤ r) : rows sup X n r = 0 := by
  unfold rows
  refine sum_eq_zero fun t ht => ?_
  rw [if_neg]
  rintro ⟨h1, h2⟩
  have := rank_lt sup (mem_range.1 ht) h1
  omega

/-- `k` more boxes. -/
theorem rows_add (X : ℕ → EReal) (n k r : ℕ) :
    rows sup X (n + k) r = rows sup X n r + ∑ x : Fin k, if kept sup (n + x.1) ∧ rank sup (n + x.1) = r then X (n + x.1) else 0 := by
  unfold rows
  rw [sum_range_add, sum_range (n := k)]

/-- Past `r` kept boxes, no more boxes change entry `r`. -/
theorem rows_add_of_lt (X : ℕ → EReal) (n k r : ℕ) (h : r < rank sup n) : rows sup X (n + k) r = rows sup X n r := by
  rw [rows_add, sum_eq_zero, add_zero]
  intro x _
  rw [if_neg]
  rintro ⟨_, h2⟩
  have := rank_mono sup (show n ≤ n + x.1 by omega)
  omega

/-- Boxes that are zero add nothing. -/
theorem rows_add_of_zero (X : ℕ → EReal) (n k r : ℕ) (h : ∀ t, n ≤ t → X t = 0) : rows sup X (n + k) r = rows sup X n r := by
  rw [rows_add, sum_eq_zero, add_zero]
  intro x _
  rw [h _ (by omega), ite_self]

/-- The kept boxes among `k` from box `m` on, counted in the extended reals. -/
theorem sum_range_kept (m k : ℕ) :
    ∑ y ∈ range k, (if kept sup (m + y) then (1 : EReal) else 0) = (((rank sup (m + k) - rank sup m : ℕ) : ℝ) : EReal) := by
  induction k with
  | zero => simp
  | succ k ih =>
    have hm := rank_mono sup (show m ≤ m + k by omega)
    rw [sum_range_succ, ih, ← add_assoc, rank_succ]
    by_cases h : kept sup (m + k)
    · rw [if_pos h, if_pos h, show rank sup (m + k) + 1 - rank sup m = rank sup (m + k) - rank sup m + 1 by omega,
        Nat.cast_add, EReal.coe_add, Nat.cast_one, EReal.coe_one]
    · rw [if_neg h, if_neg h, add_zero, add_zero]

theorem sum_fin_kept (m k : ℕ) :
    ∑ y : Fin k, (if kept sup (m + y.1) then (1 : EReal) else 0) = (((rank sup (m + k) - rank sup m : ℕ) : ℝ) : EReal) := by
  rw [← sum_range_kept, sum_range]

/-- The same up to and including box `m + x`. -/
theorem sum_fin_kept_le (m k : ℕ) (x : Fin k) :
    ∑ y : Fin k, (if kept sup (m + y.1) then (1 : EReal) else 0) * (if y.1 ≤ x.1 then 1 else 0)
      = (((rank sup (m + x.1 + 1) - rank sup m : ℕ) : ℝ) : EReal) := by
  rw [add_assoc, ← sum_range_kept, ← sum_range (fun y => (if kept sup (m + y) then (1 : EReal) else 0) * (if y ≤ x.1 then 1 else 0))]
  have hx := x.2
  rw [← sum_subset (range_subset_range.2 (show x.1 + 1 ≤ k from hx))]
  · refine sum_congr rfl fun y hy => ?_
    rw [if_pos (show y ≤ x.1 by have := mem_range.1 hy; omega), mul_one]
  · intro y _ hy
    rw [if_neg (show ¬ y ≤ x.1 by rw [mem_range] at hy; omega), mul_zero]

/-- The suppression loop: flags that start set and are, box by box, cleared by the kept ones. -/
theorem flags_iff (keep : ℕ → ℕ → Prop) (h0 : ∀ t, keep 0 t)
    (hs : ∀ k t, keep (k + 1) t ↔ keep k t ∧ ¬ (keep k k ∧ k < t ∧ sup k t)) (k t : ℕ) :
    keep k t ↔ ∀ i < k, i < t → kept sup i → ¬ sup i t := by
  induction k generalizing t with
  | zero => exact ⟨fun _ i hi => absurd hi (by omega), fun _ => h0 t⟩
  | succ k ih =>
    have hk : keep k k ↔ kept sup k := by
      rw [ih k, kept_iff]
      exact ⟨fun h i hi => h i hi hi, fun h i hi _ => h i hi⟩
    rw [hs, ih t, hk]
    constructor
    · rintro ⟨h1, h2⟩ i hi hit hki
      rcases Nat.lt_succ_iff_lt_or_eq.1 hi with h | rfl
      · exact h1 i h hit hki
      · exact fun hsup => h2 ⟨hki, hit, hsup⟩
    · intro h
      exact ⟨fun i hi => h i (by omega), fun ⟨h1, h2, h3⟩ => h k (by omega) h2 h1 h3⟩

theorem flags_last (keep : ℕ → ℕ → Prop) (h0 : ∀ t, keep 0 t)
    (hs : ∀ k t, keep (k + 1) t ↔ keep k t ∧ ¬ (keep k k ∧ k < t ∧ sup k t)) (n t : ℕ) (h : t ≤ n) :
    keep n t ↔ kept sup t := by
  rw [flags_iff sup keep h0 hs, kept_iff]
  exact ⟨fun g i hi => g i (by omega) hi, fun g i _ hi => g i hi⟩

/-- One block of the tiled suppression: flags of the lanes, each lane cleared by earlier blocks (`s₀`) or by a kept lane before it. -/
theorem block_iff (m w : ℕ) (W : ℕ → ℕ → Prop)
    (h0 : ∀ l < w, W 0 l ↔ ∃ i < m, kept sup i ∧ sup i (m + l))
    (hs : ∀ k < w, ∀ l < w, W (k + 1) l ↔ W k l ∨ (k < l ∧ sup (m + k) (m + l) ∧ ¬ W k k)) :
    ∀ l < w, W w l ↔ ¬ kept sup (m + l) := by
  have gen : ∀ k ≤ w, ∀ l < w, W k l ↔ (∃ i < m, kept sup i ∧ sup i (m + l)) ∨ ∃ i < k, i < l ∧ sup (m + i) (m + l) ∧ kept sup (m + i) := by
    intro k
    induction k with
    | zero => intro _ l hl; rw [h0 l hl]; exact ⟨Or.inl, fun h => h.elim id fun ⟨i, hi, _⟩ => absurd hi (by omega)⟩
    | succ k ih =>
      intro hk l hl
      have hkk : W k k ↔ ¬ kept sup (m + k) := by
        rw [ih (by omega) k (by omega), kept_iff]
        constructor
        · rintro (⟨i, hi, h1, h2⟩ | ⟨i, hi, _, h1, h2⟩) h
          · exact h i (by omega) h1 h2
          · exact h (m + i) (by omega) h2 h1
        · intro h
          push Not at h
          obtain ⟨i, hi, h1, h2⟩ := h
          by_cases him : i < m
          · exact Or.inl ⟨i, him, h1, h2⟩
          · refine Or.inr ⟨i - m, by omega, by omega, ?_⟩
            rw [show m + (i - m) = i by omega]
            exact ⟨h2, h1⟩
      rw [hs k (by omega) l hl, ih (by omega) l hl, hkk, not_not]
      constructor
      · rintro ((h | ⟨i, hi, h⟩) | ⟨h1, h2, h3⟩)
        · exact Or.inl h
        · exact Or.inr ⟨i, by omega, h⟩
        · exact Or.inr ⟨k, by omega, h1, h2, h3⟩
      · rintro (h | ⟨i, hi, h⟩)
        · exact Or.inl (Or.inl h)
        · rcases Nat.lt_succ_iff_lt_or_eq.1 hi with h' | rfl
          · exact Or.inl (Or.inr ⟨i, h', h⟩)
          · exact Or.inr h
  intro l hl
  rw [gen w le_rfl l hl, kept_iff]
  constructor
  · rintro (⟨i, hi, h1, h2⟩ | ⟨i, hi, hil, h1, h2⟩) h
    · exact h i (by omega) h1 h2
    · exact h (m + i) (by omega) h2 h1
  · intro h
    push Not at h
    obtain ⟨i, hi, h1, h2⟩ := h
    by_cases him : i < m
    · exact Or.inl ⟨i, him, h1, h2⟩
    · refine Or.inr ⟨i - m, by omega, by omega, ?_⟩
      rw [show m + (i - m) = i by omega]
      exact ⟨h2, h1⟩

end Cert.Nms

end
-- ==== Proof.Select.lean ====
/-
  What the suppression kernel's recursion computes over the extended reals: the first 300 kept boxes, in order.
-/
module

public import proofs.«01_k».proof.Proof.Payloads
public import proofs.«01_k».proof.Proof.Region
public import proofs.«01_k».proof.Proof.Nms

@[expose] public section

set_option maxRecDepth 16384

noncomputable section

namespace Cert.KernelIdeal.Body

open Cert.KernelIdeal Cert.KernelIdeal.Gen Cert.Nms
open Idealize.ShloMosaic
open scoped Classical

/-- Box `i` suppresses box `t` if it comes before it: their overlap is above the threshold. -/
def supX (X : ℕ → Fin 8 → EReal) (i t : ℕ) : Prop := thr < iou (X i) (X t)

/-- A sum of products of indicators is positive when some product is. -/
theorem sum_ind_pos (p q : Fin 128 → Prop) :
    0 < ∑ x : Fin 128, (if p x then (1 : EReal) else 0) * (if q x then 1 else 0) ↔ ∃ x, p x ∧ q x := by
  have e : ∀ x, (if p x then (1 : EReal) else 0) * (if q x then 1 else 0) = if p x ∧ q x then 1 else 0 := fun x => by
    by_cases hp : p x <;> by_cases hq : q x <;> simp [hp, hq]
  simp only [e]
  constructor
  · intro h
    by_contra hn
    push Not at hn
    rw [Finset.sum_eq_zero fun x _ => if_neg fun hx => hn x hx.1 hx.2] at h
    exact lt_irrefl _ h
  · rintro ⟨x, hx⟩
    refine lt_of_lt_of_le zero_lt_one ?_
    have := Finset.single_le_sum (f := fun x => if p x ∧ q x then (1 : EReal) else 0) (s := Finset.univ)
      (fun y _ => by split <;> norm_num) (Finset.mem_univ x)
    rwa [if_pos hx] at this

section Block

variable (X : ℕ → Fin 8 → EReal) (X1 : Vec Ideal S1x47x8x128 .f32) (X2 : Vec Ideal S1x47x128x8 .f32)
  (hC : ∀ j < 47, ∀ i : Fin 128, colBox (blkC X2 j) i = X (128 * j + i.1))
  (hR : ∀ j < 47, ∀ i : Fin 128, rowBox (blkR X1 j) i = X (128 * j + i.1))

include hC hR

/-- The running maximum over earlier blocks is positive at the lanes a kept box of those blocks suppresses. -/
theorem cross_pos (K : Vec Ideal S48x128 .f32) (j n : ℕ) (hj : j < 47) (hn : n ≤ j)
    (hK : ∀ b < n, ∀ x : Fin 128, rowK K b (ix2 0 x) = if kept (supX X) (128 * b + x.1) then (1 : EReal) else 0) (l : Fin 128) :
    0 < cross X2 K (blkR X1 j) n (ix2 0 l) ↔ ∃ i < 128 * n, kept (supX X) i ∧ supX X i (128 * j + l.1) := by
  induction n with
  | zero =>
    show 0 < k0_pay24 (F := Ideal) (ix2 0 l) ↔ _
    rw [pay24_apply]
    exact ⟨fun h => absurd h (lt_irrefl _), fun ⟨i, hi, _⟩ => absurd hi (by omega)⟩
  | succ n ih =>
    show 0 < k0_pay25 (cross X2 K (blkR X1 j) n) _ (rowK K n) (ix2 0 l) ↔ _
    rw [pay25_apply, lt_max_iff, ih (by omega) fun b hb => hK b (by omega)]
    have e : ∀ x : Fin 128, rowK K n (ix2 0 x)
        * k0_pay6 (k0_pay9 (blkR X1 j)) (k0_pay10 (blkR X1 j)) (k0_pay11 (blkR X1 j)) (k0_pay12 (blkR X1 j)) (k0_pay13 (blkR X1 j)) (blkC X2 n) (ix2 x l)
        = (if kept (supX X) (128 * n + x.1) then (1 : EReal) else 0) * (if supX X (128 * n + x.1) (128 * j + l.1) then 1 else 0) := fun x => by
      have e3 : (if thr < iou (X (128 * n + x.1)) (X (128 * j + l.1)) then (1 : EReal) else 0) = if supX X (128 * n + x.1) (128 * j + l.1) then 1 else 0 :=
        if_congr Iff.rfl rfl rfl
      rw [hK n (by omega), pay6_apply, hC n (by omega), hR j hj, e3]
    simp only [e]
    rw [sum_ind_pos]
    constructor
    · rintro (⟨i, hi, h⟩ | ⟨x, h⟩)
      · exact ⟨i, by omega, h⟩
      · exact ⟨128 * n + x.1, by have := x.2; omega, h⟩
    · rintro ⟨i, hi, h⟩
      by_cases h' : i < 128 * n
      · exact Or.inl ⟨i, h', h⟩
      · refine Or.inr ⟨⟨i - 128 * n, by omega⟩, ?_⟩
        dsimp only
        rw [show 128 * n + (i - 128 * n) = i by omega]
        exact h

/-- The flags of a block are positive at the boxes that are not kept. -/
theorem supOf_pos (K : Vec Ideal S48x128 .f32) (j : ℕ) (hj : j < 47)
    (hK : ∀ b < j, ∀ x : Fin 128, rowK K b (ix2 0 x) = if kept (supX X) (128 * b + x.1) then (1 : EReal) else 0) (l : Fin 128) :
    0 < supOf X1 X2 K j (ix2 0 l) ↔ ¬ kept (supX X) (128 * j + l.1) := by
  have key := block_iff (supX X) (128 * j) 128
    (fun k l => ∃ h : l < 128, 0 < within (maskOf (blkR X1 j) (blkC X2 j)) (cross X2 K (blkR X1 j) j) k (ix2 0 ⟨l, h⟩))
    (fun l hl => by
      refine ⟨fun ⟨h, hp⟩ => ?_, fun h => ⟨hl, ?_⟩⟩
      · exact (cross_pos X X1 X2 hC hR K j j hj le_rfl hK ⟨l, hl⟩).1 hp
      · exact (cross_pos X X1 X2 hC hR K j j hj le_rfl hK ⟨l, hl⟩).2 h)
    (fun k hk l hl => by
      have e : ∀ h : l < 128, within (maskOf (blkR X1 j) (blkC X2 j)) (cross X2 K (blkR X1 j) j) (k + 1) (ix2 0 ⟨l, h⟩)
          = max (within (maskOf (blkR X1 j) (blkC X2 j)) (cross X2 K (blkR X1 j) j) k (ix2 0 ⟨l, h⟩))
            (((if supX X (128 * j + k) (128 * j + l) then (1 : EReal) else 0) * (if k < l then 1 else 0))
              * if 0 < within (maskOf (blkR X1 j) (blkC X2 j)) (cross X2 K (blkR X1 j) j) k (ix2 0 ⟨k, hk⟩) then (0 : EReal) else 1) := fun h => by
        have hm : k % 128 = k := Nat.mod_eq_of_lt hk
        refine (pay27_apply _ ⟨k % 128, by rw [trips4]; exact Nat.mod_lt _ (by decide)⟩ _ _ (Nat.mod_lt _ (by decide))).trans ?_
        have e1 : rowM (maskOf (blkR X1 j) (blkC X2 j)) k (ix2 0 ⟨l, h⟩) = maskOf (blkR X1 j) (blkC X2 j) (ix2 ⟨k, hk⟩ ⟨l, h⟩) := by
          unfold rowM
          refine congrArg _ (funext fun a => ?_)
          match a with
          | ⟨0, _⟩ => exact Fin.ext hm
          | ⟨1, _⟩ => rfl
        have e2 : (⟨k % 128, Nat.mod_lt _ (by decide)⟩ : Fin 128) = ⟨k, hk⟩ := Fin.ext hm
        have e3 : (if thr < iou (X (128 * j + k)) (X (128 * j + l)) then (1 : EReal) else 0) = if supX X (128 * j + k) (128 * j + l) then 1 else 0 :=
          if_congr Iff.rfl rfl rfl
        rw [e1, maskOf_apply, hC j hj, hR j hj, ← e3]
        exact congrArg (fun z : Fin 128 => max (within (maskOf (blkR X1 j) (blkC X2 j)) (cross X2 K (blkR X1 j) j) k (ix2 0 ⟨l, h⟩))
          (((if thr < iou (X (128 * j + k)) (X (128 * j + l)) then (1 : EReal) else 0) * (if k < l then 1 else 0))
            * if 0 < within (maskOf (blkR X1 j) (blkC X2 j)) (cross X2 K (blkR X1 j) j) k (ix2 0 z) then (0 : EReal) else 1)) e2
      constructor
      · rintro ⟨h, hp⟩
        rw [e h, lt_max_iff] at hp
        rcases hp with hp | hp
        · exact Or.inl ⟨h, hp⟩
        · refine Or.inr ?_
          by_cases h1 : supX X (128 * j + k) (128 * j + l)
          · by_cases h2 : k < l
            · by_cases h3 : 0 < within (maskOf (blkR X1 j) (blkC X2 j)) (cross X2 K (blkR X1 j) j) k (ix2 0 ⟨k, hk⟩)
              · rw [if_pos h3, mul_zero] at hp; exact absurd hp (lt_irrefl _)
              · exact ⟨h2, h1, fun ⟨_, h4⟩ => h3 h4⟩
            · rw [if_neg h2, mul_zero, zero_mul] at hp; exact absurd hp (lt_irrefl _)
          · rw [if_neg h1, zero_mul, zero_mul] at hp; exact absurd hp (lt_irrefl _)
      · rintro (⟨h, hp⟩ | ⟨h2, h1, h3⟩)
        · exact ⟨h, by rw [e h, lt_max_iff]; exact Or.inl hp⟩
        · refine ⟨hl, ?_⟩
          rw [e hl, lt_max_iff, if_pos h1, if_pos h2, if_neg fun h4 => h3 ⟨hk, h4⟩, one_mul, one_mul]
          exact Or.inr zero_lt_one)
    l.1 l.2
  rw [← key]
  exact ⟨fun h => ⟨l.2, h⟩, fun ⟨_, h⟩ => h⟩

/-- What holds after `n` blocks: the rows below 300 are those of the selection among the first `128 n` boxes; and either the count and the
    flags are the kept boxes', or 300 are reached and the blocks to come change nothing. -/
def Inv (n : ℕ) (σ : St Ideal) : Prop :=
  (∀ (r : Fin 304) (c : Fin 8), r.1 < 300 → σ.out (ix3 0 r c) = rows (supX X) (fun t => X t c) (128 * n) r.1)
  ∧ ((σ.cnt = BitVec.ofNat 32 (rank (supX X) (128 * n))
        ∧ ∀ b < n, ∀ x : Fin 128, rowK σ.keep b (ix2 0 x) = if kept (supX X) (128 * b + x.1) then (1 : EReal) else 0)
      ∨ (300 ≤ rank (supX X) (128 * n) ∧ ¬ live σ.cnt))

omit hC hR in
theorem live_iff (n : ℕ) (h : n < 2147483648) : live (BitVec.ofNat 32 n) ↔ n < 300 := by
  unfold live
  have e : Scalar.cmpi .slt (BitVec.ofNat 32 n) 300#32 = BitVec.ofBool (decide (n < 300)) := slt_small n 300 h (by omega)
  rw [e]
  by_cases hn : n < 300
  · rw [decide_eq_true hn]; exact ⟨fun _ => hn, fun _ => by decide⟩
  · rw [decide_eq_false hn]; exact ⟨fun h => absurd h (by decide), fun h => absurd h hn⟩

omit hC hR in
/-- A step that is not taken. -/
theorem step_dead (n : ℕ) (σ : St Ideal) (hl : ¬ live σ.cnt) (hr : 300 ≤ rank (supX X) (128 * n)) (h : Inv X n σ) :
    Inv X (n + 1) (step X1 X2 n σ) := by
  unfold step
  rw [if_neg hl]
  refine ⟨fun r c hrc => ?_, Or.inr ⟨hr.trans (rank_mono _ (by omega)), hl⟩⟩
  rw [h.1 r c hrc, show 128 * (n + 1) = 128 * n + 128 by ring, rows_add_of_lt _ _ _ _ _ (by omega)]

omit hC hR in
theorem fptosi_small (n : ℕ) (h : n < 2147483648) : Ideal.fptosi 32 ((n : ℝ) : EReal) = BitVec.ofNat 32 n := by
  unfold Ideal.fptosi
  rw [Ideal.toIntClamped_coe, if_pos (Nat.cast_nonneg n), Int.floor_natCast]
  rw [show max (-((2 ^ (32 - 1) : ℕ) : ℤ)) (min (((2 ^ (32 - 1) : ℕ) : ℤ) - 1) (n : ℤ)) = (n : ℤ) by norm_num; omega]
  simp

/-- A block's step keeps the invariant. -/
theorem step_inv (n : ℕ) (hn : n < 47) (σ : St Ideal) (h : Inv X n σ) : Inv X (n + 1) (step X1 X2 n σ) := by
  obtain ⟨ho, ⟨hc, hK⟩ | ⟨hr, hl⟩⟩ := id h
  swap
  · exact step_dead X X1 X2 n σ hl hr h
  have hrank := rank_le (supX X) (128 * n)
  by_cases hlt : rank (supX X) (128 * n) < 300
  swap
  · refine step_dead X X1 X2 n σ ?_ (by omega) h
    rw [hc, live_iff _ (by omega)]
    exact hlt
  have hlive : live σ.cnt := by rw [hc, live_iff _ (by omega)]; exact hlt
  have hs := supOf_pos X X1 X2 hC hR σ.keep n hn hK
  have h28 : ∀ x : Fin 128, k0_pay28 (supOf X1 X2 σ.keep n) (ix2 0 x) = if kept (supX X) (128 * n + x.1) then (1 : EReal) else 0 := fun x => by
    rw [pay28_apply]
    by_cases hx : kept (supX X) (128 * n + x.1)
    · rw [if_neg (fun h => (hs x).1 h hx), if_pos hx]
    · rw [if_pos ((hs x).2 hx), if_neg hx]
  have h29 : ∀ x : Fin 128, k0_pay29 (supOf X1 X2 σ.keep n) (ix2 0 x) = if kept (supX X) (128 * n + x.1) then (1 : EReal) else 0 := fun x => by
    rw [pay29_apply, ← pay28_apply, h28]
  have h30 : ∀ x : Fin 128, k0_pay30 k0_pay3 (supOf X1 X2 σ.keep n) (ix2 0 x)
      = (((rank (supX X) (128 * n + x.1 + 1) - rank (supX X) (128 * n) : ℕ) : ℝ) : EReal) := fun x => by
    rw [pay30_apply, ← sum_fin_kept_le]
    exact Finset.sum_congr rfl fun y _ => by rw [← pay28_apply, h28]
  have h5 : k0_pay5 (k0_pay28 (supOf X1 X2 σ.keep n)) = (((rank (supX X) (128 * n + 128) - rank (supX X) (128 * n) : ℕ) : ℝ) : EReal) := by
    rw [pay5_apply, ← sum_fin_kept]
    exact Finset.sum_congr rfl fun y _ => h28 y
  have h31 : k0_pay31 (F := Ideal) σ.cnt = ((rank (supX X) (128 * n) : ℝ) : EReal) := by
    rw [hc]; exact sitofp_small _ (by omega)
  have hm := rank_mono (supX X) (show 128 * n ≤ 128 * n + 128 by omega)
  have hm' := rank_le (supX X) (128 * n + 128)
  unfold step
  rw [if_pos hlive]
  refine ⟨fun r c hrc => ?_, Or.inl ⟨?_, ?_⟩⟩
  · show k0_pay4 _ _ _ _ _ (ix3 0 r c) = _
    rw [pay4_apply, ho r c hrc, show 128 * (n + 1) = 128 * n + 128 by ring, rows_add]
    refine congrArg (_ + ·) (Finset.sum_congr rfl fun x _ => ?_)
    rw [hC n hn, h28, h30, h31]
    by_cases hx : kept (supX X) (128 * n + x.1)
    · have hmx := rank_mono (supX X) (show 128 * n ≤ 128 * n + x.1 by omega)
      have e : ((rank (supX X) (128 * n) : ℝ) : EReal) + (((rank (supX X) (128 * n + x.1 + 1) - rank (supX X) (128 * n) : ℕ) : ℝ) : EReal) - 1
          = ((rank (supX X) (128 * n + x.1) : ℝ) : EReal) := by
        rw [rank_succ, if_pos hx, ← EReal.coe_add, ← EReal.coe_one, ← EReal.coe_sub, ← Nat.cast_add,
          show rank (supX X) (128 * n) + (rank (supX X) (128 * n + x.1) + 1 - rank (supX X) (128 * n)) = rank (supX X) (128 * n + x.1) + 1 by omega]
        exact congrArg ((↑) : ℝ → EReal) (show ((rank (supX X) (128 * n + x.1) + 1 : ℕ) : ℝ) - 1 = (rank (supX X) (128 * n + x.1) : ℝ) by push_cast; ring)
      rw [if_pos hx, if_pos zero_lt_one, e]
      by_cases hxr : rank (supX X) (128 * n + x.1) = r.1
      · rw [if_pos (by rw [hxr]), if_pos ⟨hx, hxr⟩, one_mul]
      · rw [if_neg, if_neg (fun h => hxr h.2), zero_mul]
        intro h
        rw [EReal.coe_eq_coe_iff, Nat.cast_inj] at h
        exact hxr h.symm
    · rw [if_neg hx, if_neg (lt_irrefl _), if_neg (c := kept (supX X) (128 * n + x.1) ∧ _) (fun h => hx h.1), if_neg, zero_mul]
      have e : Ideal.ofBits .f32 3212836864#32 = ((-1 : ℝ) : EReal) := by
        simp [Ideal.ofBits, Ideal.ieee, -EReal.coe_mul]; norm_num
      rw [e, EReal.coe_eq_coe_iff]
      have : (0 : ℝ) ≤ (r.1 : ℝ) := Nat.cast_nonneg _
      linarith
  · show Scalar.addi σ.cnt (Scalar.fptosi 32 (k0_pay5 (k0_pay28 (supOf X1 X2 σ.keep n)))) = _
    rw [h5, hc, Ideal.scalar_fptosi_def, fptosi_small _ (by omega)]
    show BitVec.ofNat 32 _ + BitVec.ofNat 32 _ = _
    rw [← BitVec.ofNat_add, show rank (supX X) (128 * n) + (rank (supX X) (128 * n + 128) - rank (supX X) (128 * n)) = rank (supX X) (128 * (n + 1)) by
      rw [show 128 * (n + 1) = 128 * n + 128 by ring]; omega]
  · intro b hb x
    show rowK (putRow σ.keep n _) b (ix2 0 x) = _
    rw [rowK_putRow _ n (by omega) _ b (by omega)]
    by_cases hbn : b = n
    · rw [if_pos hbn, hbn, h29]
    · rw [if_neg hbn, hK b (by omega)]

/-- The recursion's state after `n` blocks. -/
theorem state_inv (K : Vec Ideal S48x128 .f32) (n : ℕ) (hn : n ≤ 47) : Inv X n (state X1 X2 K n) := by
  induction n with
  | zero =>
    refine ⟨fun r c _ => ?_, Or.inl ⟨?_, fun b hb => absurd hb (by omega)⟩⟩
    · rw [Nat.mul_zero, rows_zero]; exact pay1_apply r c
    · rw [Nat.mul_zero, rank_zero]; rfl
  | succ n ih => exact step_inv X X1 X2 hC hR n (by omega) _ (ih (by omega))

/-- The rows the kernel's body leaves. -/
theorem outOf_apply (r : Fin 304) (c : Fin 8) (hr : r.1 < 300) :
    outOf X1 X2 (ix3 0 r c) = rows (supX X) (fun t => X t c) 6016 r.1 := by
  have h := (state_inv X X1 X2 hC hR noKeep 47 le_rfl).1 r c hr
  unfold outOf
  rw [h]

end Block

end Cert.KernelIdeal.Body

end
-- ==== Proof.Spec.lean ====
/-
  What both programs compute from the sorted boxes: non-maximum suppression, as a sum over the boxes of each rank.
-/
module

public import proofs.«01_k».proof.Proof.Select

@[expose] public section

set_option maxRecDepth 16384

noncomputable section

namespace Cert.KernelIdeal.Body

open Cert.KernelIdeal Cert.KernelIdeal.Gen Cert.Nms
open Idealize.ShloMosaic Idealize.ShloMosaic.TcCoe Idealize.ShloMosaic.StableHlo

/-- Box `t` of batch entry `b`, with zeros for the columns and boxes the padding adds. -/
def boxOf (v : FVec Ideal S4x6000x4 .f32) (b : Fin 4) (t : ℕ) : Fin 8 → EReal := fun c =>
  if h : t < 6000 ∧ c.1 < 4 then v (ix3 b ⟨t, h.1⟩ ⟨c.1, h.2⟩) else 0

theorem boxOf_at (v : FVec Ideal S4x6000x4 .f32) (b : Fin 4) {t t' : ℕ} (e : t' = t) (c : Fin 8) :
    (if h : t' < 6000 then if h' : c.1 < 4 then v (ix3 b ⟨t', h⟩ ⟨c.1, h'⟩) else 0 else (0 : EReal)) = boxOf v b t c := by
  subst e
  unfold boxOf
  by_cases h : t' < 6000 <;> by_cases h' : c.1 < 4 <;> simp [h, h']

/-- The non-maximum suppression of sorted boxes: the batch number, then the kept boxes in order, then zeros. -/
def nms (v : FVec Ideal S4x6000x4 .f32) : FVec Ideal S4x300x5 .f32 := fun i =>
  if (i 2).1 < 1 then FloatOps.sitofp (F := Ideal) .f32 (BitVec.ofNat 32 (i 0).1)
  else rows (supX (boxOf v (i 0))) (fun t => boxOf v (i 0) t ⟨(i 2).1 - 1, by have h : (i 2).1 < 5 := (i 2).isLt; omega⟩) 6000 (i 1).1

end Cert.KernelIdeal.Body

end
-- ==== Proof.KernelHost.lean ====
/-
  The kernel's host program around the launch: how the sorted boxes are laid out for it, and what becomes of its rows.
-/
module

public import proofs.«01_k».proof.Proof.Spec
public import Idealize.ShloMosaic.Lib.Pipeline.ValueKit

@[expose] public section

set_option maxRecDepth 16384

noncomputable section

namespace Cert.KernelIdeal.Body

open Cert.KernelIdeal Cert.KernelIdeal.Gen Cert.Nms
open Idealize.ShloMosaic Idealize.ShloMosaic.TcCoe Idealize.ShloMosaic.StableHlo

/-- The padded boxes, one box per sublane. -/
theorem pad_cols (W : Valuation τ sig (Elt Ideal)) (b : Fin 4) (j : Fin 47) (i : Fin 128) (c : Fin 8) :
    (after hostOps0_34 W (Proc.devRef .tc main_v207) : FVec Ideal S4x47x128x8 .f32) (ix4 b j i c)
      = boxOf (W (Proc.devRef .tc main_v202)) b (128 * j.1 + i.1) c := by
  after_results
  pointwise
  exact boxOf_at _ b (by omega) c

/-- The padded boxes, one box per lane. -/
theorem pad_rows (W : Valuation τ sig (Elt Ideal)) (b : Fin 4) (j : Fin 47) (i : Fin 128) (c : Fin 8) :
    (after hostOps0_34 W (Proc.devRef .tc main_v210) : FVec Ideal S4x47x8x128 .f32) (ix4 b j c i)
      = boxOf (W (Proc.devRef .tc main_v202)) b (128 * j.1 + i.1) c := by
  after_results
  pointwise
  exact boxOf_at _ b (by omega) c

/-- The padding leaves the boxes. -/
theorem pad_keeps (W : Valuation τ sig (Elt Ideal)) :
    after hostOps0_34 W (Proc.devRef .tc main_v202) = W (Proc.devRef .tc main_v202) := by
  after_results

/-- The result: the batch number, then four columns of the kernel's rows. -/
theorem tail_apply (W : Valuation τ sig (Elt Ideal)) (b : Fin 4) (r : Fin 300) (c : Fin 5) :
    (after hostOps1 W (Proc.devRef .tc main_v216) : FVec Ideal S4x300x5 .f32) (ix3 b r c)
      = if c.1 < 1 then FloatOps.sitofp (F := Ideal) .f32 (BitVec.ofNat 32 b.1)
        else (W (Proc.devRef .tc main_v211) : FVec Ideal S4x304x8 .f32) (ix3 b ⟨r.1, by omega⟩ ⟨c.1 - 1, by omega⟩) := by
  after_results
  pointwise
  rfl

/-! ## The launch's arrays -/

variable (m : (ℓ : Loc nD τ sig) → Buf (Elt Ideal) ℓ)

/-- The host stretches before the padding. -/
abbrev firstOps : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33]

/-- The sorted boxes the host program computes. -/
def sorted (c : Dev nD) : FVec Ideal S4x6000x4 .f32 :=
  after (List.flatten firstOps) (fun b => m (c, b)) (Proc.devRef .tc main_v202)

theorem V0_eq (c : Dev nD) : V0 m c = after hostOps0_34 (after (List.flatten firstOps) (fun b => m (c, b))) := by
  show after (List.flatten (firstOps ++ [hostOps0_34])) _ = _
  rw [List.flatten_append, after_append, List.flatten_singleton]

theorem V_cols (c : Dev nD) (b : Fin 4) (j : Fin 47) (i : Fin 128) (k : Fin 8) :
    (V m c main_v207 : FVec Ideal S4x47x128x8 .f32) (ix4 b j i k) = boxOf (sorted m c) b (128 * j.1 + i.1) k := by
  show V0 m c (Proc.devRef .tc main_v207) _ = _
  rw [V0_eq]
  exact pad_cols _ b j i k

theorem V_rows (c : Dev nD) (b : Fin 4) (j : Fin 47) (i : Fin 128) (k : Fin 8) :
    (V m c main_v210 : FVec Ideal S4x47x8x128 .f32) (ix4 b j k i) = boxOf (sorted m c) b (128 * j.1 + i.1) k := by
  show V0 m c (Proc.devRef .tc main_v210) _ = _
  rw [V0_eq]
  exact pad_rows _ b j i k

theorem idx0 : ∀ t : Fin cfg0.N, (cfg0.win 0).index t 0 = t.val ∧ (cfg0.win 0).index t 1 = 0 ∧ (cfg0.win 0).index t 2 = 0 ∧ (cfg0.win 0).index t 3 = 0 := by decide +kernel
theorem idx1 : ∀ t : Fin cfg0.N, (cfg0.win 1).index t 0 = t.val ∧ (cfg0.win 1).index t 1 = 0 ∧ (cfg0.win 1).index t 2 = 0 ∧ (cfg0.win 1).index t 3 = 0 := by decide +kernel
theorem idx2 : ∀ t : Fin cfg0.N, (cfg0.win 2).index t 0 = t.val ∧ (cfg0.win 2).index t 1 = 0 ∧ (cfg0.win 2).index t 2 = 0 := by decide +kernel

/-- A grid point as a batch entry. -/
abbrev entry (t : Fin cfg0.N) : Fin 4 := ⟨t.1, Nat.lt_of_lt_of_eq t.2 N_0⟩

theorem emb0 (t : Fin cfg0.N) (z : S1x47x8x128.Idx) :
    (((cfg0.win 0).blk t).view.emb z : S4x47x8x128.Idx) = ix4 (entry t) (z 1) (z 2) (z 3) := by
  have h := idx0 t
  funext a
  apply Fin.ext
  have hz : (z 0).1 < 1 := (z 0).2
  match a with
  | ⟨0, _⟩ => blk_simp [h]
  | ⟨1, _⟩ => blk_simp [h]; rfl
  | ⟨2, _⟩ => blk_simp [h]; rfl
  | ⟨3, _⟩ => blk_simp [h]; rfl

theorem emb1 (t : Fin cfg0.N) (z : S1x47x128x8.Idx) :
    (((cfg0.win 1).blk t).view.emb z : S4x47x128x8.Idx) = ix4 (entry t) (z 1) (z 2) (z 3) := by
  have h := idx1 t
  funext a
  apply Fin.ext
  have hz : (z 0).1 < 1 := (z 0).2
  match a with
  | ⟨0, _⟩ => blk_simp [h]
  | ⟨1, _⟩ => blk_simp [h]; rfl
  | ⟨2, _⟩ => blk_simp [h]; rfl
  | ⟨3, _⟩ => blk_simp [h]; rfl

theorem emb2 (t : Fin cfg0.N) (z : S1x304x8.Idx) :
    (((cfg0.win 2).blk t).view.emb z : S4x304x8.Idx) = ix3 (entry t) (z 1) (z 2) := by
  have h := idx2 t
  funext a
  apply Fin.ext
  have hz : (z 0).1 < 1 := (z 0).2
  match a with
  | ⟨0, _⟩ => blk_simp [h]
  | ⟨1, _⟩ => blk_simp [h]; rfl
  | ⟨2, _⟩ => blk_simp [h]; rfl

/-- The rows a point's blocks give, in one array. -/
def rowsArr (c : Dev nD) : FVec Ideal S4x304x8 .f32 := fun i =>
  outOf (F := Ideal) (fun y => (V m c main_v210 : FVec Ideal S4x47x8x128 .f32) (ix4 (i 0) (y 1) (y 2) (y 3)))
    (fun y => (V m c main_v207 : FVec Ideal S4x47x128x8 .f32) (ix4 (i 0) (y 1) (y 2) (y 3))) (ix3 0 (i 1) (i 2))

theorem iblk_rows (c : Dev nD) (t : Fin cfg0.N) :
    iblk m c 0 t = fun y => (V m c main_v210 : FVec Ideal S4x47x8x128 .f32) (ix4 (entry t) (y 1) (y 2) (y 3)) :=
  funext fun z => congrArg (V m c main_v210 : FVec Ideal S4x47x8x128 .f32) (emb0 t z)

theorem iblk_cols (c : Dev nD) (t : Fin cfg0.N) :
    iblk m c 1 t = fun y => (V m c main_v207 : FVec Ideal S4x47x128x8 .f32) (ix4 (entry t) (y 1) (y 2) (y 3)) :=
  funext fun z => congrArg (V m c main_v207 : FVec Ideal S4x47x128x8 .f32) (emb1 t z)

/-- The output array ends at the rows of each batch entry. -/
theorem final_rows (c : Dev nD) : (dats m 0 c).arrAt 2 cfg0.N = rowsArr m c := by
  refine (dats m 0 c).arrAt_eq_of_covers 2 _ (by decide +kernel) fun t hf y => ?_
  blk_simp
  rw [after0_2, iblk_rows, iblk_cols]
  have hy : y = (ix3 (0 : Fin 1) (y 1) (y 2) : S1x304x8.Idx) := by
    funext a
    match a with
    | ⟨0, _⟩ => exact Subsingleton.elim (α := Fin 1) _ _
    | ⟨1, _⟩ => rfl
    | ⟨2, _⟩ => rfl
  refine Eq.trans ?_ (congrArg (rowsArr m c) (emb2 t y)).symm
  exact congrArg _ hy

/-- A row of the output array below 300: the kept box of that rank. -/
theorem rowsArr_apply (c : Dev nD) (b : Fin 4) (r : Fin 304) (k : Fin 8) (hr : r.1 < 300) :
    rowsArr m c (ix3 b r k)
      = rows (supX (boxOf (sorted m c) b)) (fun t => boxOf (sorted m c) b t k) 6016 r.1 := by
  refine outOf_apply (boxOf (sorted m c) b) _ _ (fun j hj i => ?_) (fun j hj i => ?_) r k hr
  · funext k
    refine Eq.trans ?_ (V_cols m c b ⟨j, hj⟩ i k)
    refine congrArg (V m c main_v207 : FVec Ideal S4x47x128x8 .f32) (funext fun a => ?_)
    match a with
    | ⟨0, _⟩ => rfl
    | ⟨1, _⟩ => exact Fin.ext (Nat.mod_eq_of_lt hj)
    | ⟨2, _⟩ => rfl
    | ⟨3, _⟩ => rfl
  · funext k
    refine Eq.trans ?_ (V_rows m c b ⟨j, hj⟩ i k)
    refine congrArg (V m c main_v210 : FVec Ideal S4x47x8x128 .f32) (funext fun a => ?_)
    match a with
    | ⟨0, _⟩ => rfl
    | ⟨1, _⟩ => exact Fin.ext (Nat.mod_eq_of_lt hj)
    | ⟨2, _⟩ => rfl
    | ⟨3, _⟩ => rfl

/-! ## The result -/

/-- The boxes the padding adds are zero, and so are no part of a row. -/
theorem rows_pad (v : FVec Ideal S4x6000x4 .f32) (b : Fin 4) (k : Fin 8) (r : ℕ) :
    rows (supX (boxOf v b)) (fun t => boxOf v b t k) 6016 r = rows (supX (boxOf v b)) (fun t => boxOf v b t k) 6000 r := by
  have h : ∀ n, n = 6000 + 16 → rows (supX (boxOf v b)) (fun t => boxOf v b t k) n r
      = rows (supX (boxOf v b)) (fun t => boxOf v b t k) 6000 r := by
    rintro n rfl
    apply rows_add_of_zero
    intro t ht
    exact dif_neg (fun h => absurd h.1 (Nat.not_lt.mpr ht))
  exact h 6016 (by norm_num)

/-- The result is determined by the rows the launch leaves. -/
theorem nms_of_rows (v : FVec Ideal S4x6000x4 .f32) (W : Valuation τ sig (Elt Ideal))
    (h : ∀ (b : Fin 4) (r : Fin 304) (k : Fin 8), r.1 < 300 → (W (Proc.devRef .tc main_v211) : FVec Ideal S4x304x8 .f32) (ix3 b r k)
      = rows (supX (boxOf v b)) (fun t => boxOf v b t k) 6016 r.1) :
    (after hostOps1 W (Proc.devRef .tc main_v216) : FVec Ideal S4x300x5 .f32) = nms v := by
  funext i
  rw [eq_ix3 i]
  refine (tail_apply W (i 0) (i 1) (i 2)).trans ?_
  unfold nms
  refine if_congr Iff.rfl rfl ?_
  refine (h _ _ _ (i 1).isLt).trans ?_
  exact rows_pad v (i 0) _ _

theorem arr_rows (c : Dev nD) :
    Pipeline.withArrays spec0 c (V0 m c) (fun w => (dats m 0 c).arrAt w cfg0.N) (Proc.devRef .tc main_v211) = rowsArr m c :=
  (Pipeline.withArrays_arr spec0 launch0.win.arr_inj c (V0 m c) (fun w => (dats m 0 c).arrAt w cfg0.N) 2).trans (final_rows m c)

theorem tail_value (c : Dev nD) :
    (Pipeline.afterTail₀ cfgs (dats m) 0 (V0 m) [hostOps1] c main_v216 : FVec Ideal S4x300x5 .f32) = nms (sorted m c) := by
  unfold Pipeline.afterTail₀
  rw [List.flatten_singleton]
  refine nms_of_rows (sorted m c) _ (fun b r k hr => ?_)
  exact (congrFun (arr_rows m c) _).trans (rowsArr_apply m c b r k hr)

/-- The kernel's run: its result is the suppression of the boxes the host program sorted, its arguments are unchanged. -/
theorem value (ρ : Dev nD → PrngReg) : θ_run defs (onTc (τ := τ) (main (F := Ideal))) ⟨m, fun _ => 0, ρ⟩ (fun r => ∀ c : Dev nD,
      r.2.mem ((c.tc : Thread nD τ).loc main_v216) = nms (sorted m c)) :=
  (θ_run defs _ _).mono (fun _ h c => (h.1 c).2 main_v216 (Pipeline.mem_restRefs_of main_v216 (by decide) (by decide)) |>.trans (tail_value m c))
    (run_main m ρ)

end Cert.KernelIdeal.Body

end
-- ==== Proof.Sorted.lean ====
module

public import proofs.«01_k».proof.Proof.Prefix
public import proofs.«01_k».proof.Proof.KernelHost

/-!
# The sorted boxes of the two programs are the same
-/

@[expose] public section

set_option maxRecDepth 16384

noncomputable section

namespace Cert.Agree

open Idealize.ShloMosaic Idealize.ShloMosaic.TcCoe Idealize.ShloMosaic.StableHlo

/-- The reference's operations before the sorted boxes. -/
abbrev firstOps : List (List (HloOp Cert.ReferenceIdeal.τ Cert.ReferenceIdeal.sig (Elt Ideal))) :=
  [Cert.ReferenceIdeal.Gen.hostOps0, Cert.ReferenceIdeal.Gen.hostOps0_1, Cert.ReferenceIdeal.Gen.hostOps0_2, Cert.ReferenceIdeal.Gen.hostOps0_3, Cert.ReferenceIdeal.Gen.hostOps0_4, Cert.ReferenceIdeal.Gen.hostOps0_5, Cert.ReferenceIdeal.Gen.hostOps0_6, Cert.ReferenceIdeal.Gen.hostOps0_7, Cert.ReferenceIdeal.Gen.hostOps0_8, Cert.ReferenceIdeal.Gen.hostOps0_9, Cert.ReferenceIdeal.Gen.hostOps0_10, Cert.ReferenceIdeal.Gen.hostOps0_11, Cert.ReferenceIdeal.Gen.hostOps0_12, Cert.ReferenceIdeal.Gen.hostOps0_13, Cert.ReferenceIdeal.Gen.hostOps0_14, Cert.ReferenceIdeal.Gen.hostOps0_15, Cert.ReferenceIdeal.Gen.hostOps0_16, Cert.ReferenceIdeal.Gen.hostOps0_17, Cert.ReferenceIdeal.Gen.hostOps0_18, Cert.ReferenceIdeal.Gen.hostOps0_19, Cert.ReferenceIdeal.Gen.hostOps0_20, Cert.ReferenceIdeal.Gen.hostOps0_21, Cert.ReferenceIdeal.Gen.hostOps0_22, Cert.ReferenceIdeal.Gen.hostOps0_23, Cert.ReferenceIdeal.Gen.hostOps0_24, Cert.ReferenceIdeal.Gen.hostOps0_25, Cert.ReferenceIdeal.Gen.hostOps0_26, Cert.ReferenceIdeal.Gen.hostOps0_27, Cert.ReferenceIdeal.Gen.hostOps0_28, Cert.ReferenceIdeal.Gen.hostOps0_29, Cert.ReferenceIdeal.Gen.hostOps0_30, Cert.ReferenceIdeal.Gen.hostOps0_31, Cert.ReferenceIdeal.Gen.hostOps0_32, Cert.ReferenceIdeal.Gen.hostOps0_33]

theorem first_pairs : Pairs 5 (List.flatten Cert.KernelIdeal.Body.firstOps) (List.flatten firstOps) 495 := by
  obtain ⟨h0, h1, h2, h3, h4, h5, h6, h7, h8, h9, h10, h11, h12, h13, h14, h15, h16, h17, h18, h19, h20, h21, h22, h23, h24, h25, h26, h27, h28, h29, h30, h31, h32, h33⟩ := stretches (F := Ideal)
  simp only [List.flatten_cons, List.flatten_nil]
  exact h0.append (h1.append (h2.append (h3.append (h4.append (h5.append (h6.append (h7.append (h8.append (h9.append (h10.append (h11.append (h12.append (h13.append (h14.append (h15.append (h16.append (h17.append (h18.append (h19.append (h20.append (h21.append (h22.append (h23.append (h24.append (h25.append (h26.append (h27.append (h28.append (h29.append (h30.append (h31.append (h32.append (h33.append (Pairs.nil _))))))))))))))))))))))))))))))))))

/-- The sorted boxes the reference computes. -/
def sorted (m' : (ℓ : Loc Cert.ReferenceIdeal.nD Cert.ReferenceIdeal.τ Cert.ReferenceIdeal.sig) → Buf (Elt Ideal) ℓ)
    (c : Dev Cert.ReferenceIdeal.nD) : FVec Ideal Cert.ReferenceIdeal.S4x6000x4 .f32 :=
  after (List.flatten firstOps) (fun b => m' (c, b)) (Proc.devRef .tc Cert.ReferenceIdeal.main_v202)

/-- From the same arguments the two programs sort the same boxes. -/
theorem sorted_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Body.sorted m c = sorted m' c := by
  have hA : Agree 5 (fun b => m (c, b)) (fun b => m' (c, b)) := by
    intro i hi r r' hr
    obtain ⟨hs, hs', e, e'⟩ := hr
    interval_cases i
    · obtain rfl : r = Cert.KernelIdeal.main_arg0 := eq_of_idx hs rfl e
      obtain rfl : r' = Cert.ReferenceIdeal.main_arg0 := eq_of_idx hs' rfl e'
      exact heq_of_eq h0.symm
    · obtain rfl : r = Cert.KernelIdeal.main_arg1 := eq_of_idx hs rfl e
      obtain rfl : r' = Cert.ReferenceIdeal.main_arg1 := eq_of_idx hs' rfl e'
      exact heq_of_eq h1.symm
    · obtain rfl : r = Cert.KernelIdeal.main_arg2 := eq_of_idx hs rfl e
      obtain rfl : r' = Cert.ReferenceIdeal.main_arg2 := eq_of_idx hs' rfl e'
      exact heq_of_eq h2.symm
    · obtain rfl : r = Cert.KernelIdeal.main_arg3 := eq_of_idx hs rfl e
      obtain rfl : r' = Cert.ReferenceIdeal.main_arg3 := eq_of_idx hs' rfl e'
      exact heq_of_eq h3.symm
    · obtain rfl : r = Cert.KernelIdeal.main_arg4 := eq_of_idx hs rfl e
      obtain rfl : r' = Cert.ReferenceIdeal.main_arg4 := eq_of_idx hs' rfl e'
      exact heq_of_eq h4.symm
  exact eq_of_heq (first_pairs.agree _ _ hA 494 (by decide) Cert.KernelIdeal.main_v202 Cert.ReferenceIdeal.main_v202 ⟨rfl, rfl, rfl, rfl⟩)

/-- What the reference's loop starts from: the operations after the sorted boxes, run on them. -/
theorem entry_eq (m' : (ℓ : Loc Cert.ReferenceIdeal.nD Cert.ReferenceIdeal.τ Cert.ReferenceIdeal.sig) → Buf (Elt Ideal) ℓ)
    (c : Dev Cert.ReferenceIdeal.nD) :
    entryContents Cert.ReferenceIdeal.Value.preI m' c
      = after Cert.ReferenceIdeal.Gen.hostOps0_34 (after (List.flatten firstOps) (fun b => m' (c, b))) := by
  show afterL (firstOps ++ [Cert.ReferenceIdeal.Gen.hostOps0_34]) _ = _
  rw [afterL_eq_after_flatten, List.flatten_append, after_append, List.flatten_singleton]

end Cert.Agree

end
-- ==== Proof.RefLoop.lean ====
/-
  The reference's loop, read at an index: after `k` trips a box is flagged when no kept box among the first `k` suppresses it.
-/
module

public import proofs.«01_k».proof.Proof.Spec
public import proofs.«01_k».proof.Proof.Gen.ReferenceIdeal.Run
public import Idealize.ShloMosaic.Lib.DynamicIndex

@[expose] public section

set_option maxRecDepth 16384

noncomputable section

namespace Cert.ReferenceIdeal.Keep

open Cert.ReferenceIdeal Cert.ReferenceIdeal.Gen Cert.ReferenceIdeal.Value Cert.Nms
open Cert.KernelIdeal.Body (boxOf supX)
open Idealize.ShloMosaic Idealize.ShloMosaic.TcCoe Idealize.ShloMosaic.StableHlo

/-- Where a trip's dynamic slices start: batch 0, and the trip's box. -/
theorem start_eq (w : IVec S_ 32) (k : ℕ) (hk : k < 6000) (hw : w ix0 = BitVec.ofNat 32 k) (a : Fin 2) :
    (((![constantI S_ 32 0#32, select (cmpi .slt w (constantI S_ 32 0#32)) (addi (id w) (constantI S_ 32 6000#32)) w]
      : Fin 2 → IVec S_ 32)) a (Shape.Idx.first h_S_)).toInt = ((![0, k] : Fin 2 → ℕ) a : ℤ) := by
  have hw' : w = fun _ => BitVec.ofNat 32 k := funext fun j => by rw [← hw]; exact congrArg w (Subsingleton.elim _ _)
  have ht : (BitVec.ofNat 32 k).toInt = (k : ℤ) := toInt_ofNat_of_lt (by omega)
  match a with
  | ⟨0, _⟩ => rfl
  | ⟨1, _⟩ =>
    refine Eq.trans (congrArg BitVec.toInt (select_slt_zero_of_nonneg w _ w (Shape.Idx.first h_S_) ?_)) ?_
    · rw [hw', ht]; omega
    · rw [hw']; exact ht

/-- A trip's dynamic slice: the trip's column. -/
theorem slice_eq {α : Type} (x : S4x6000.Idx → α) (start : Fin 2 → ℤ) (k : ℕ) (hk : k < 6000)
    (hs : ∀ a, start a = ((![0, k] : Fin 2 → ℕ) a : ℤ)) :
    Host.dynamicSlice S4x1 x start sliceFits_S4x6000_S4x1 = fun i => x (ix2 (i 0) ⟨k, hk⟩) := by
  have hoff : S4x6000.Slices (![0, k] : Fin 2 → ℕ) S4x1 := ⟨rfl, fun a => by
    match a with
    | ⟨0, _⟩ => exact (by decide : 0 + 4 ≤ 4)
    | ⟨1, _⟩ => exact (by omega : k + 1 ≤ 6000)⟩
  rw [Host.dynamicSlice_eq_extractStridedSlice S4x1 x start (![0, k] : Fin 2 → ℕ) sliceFits_S4x6000_S4x1 hoff hs]
  funext i
  have h1 : (i 1).1 < 1 := (i 1).isLt
  refine congrArg x (funext fun a => Fin.ext ?_)
  match a with
  | ⟨0, _⟩ => exact Nat.zero_add _
  | ⟨1, _⟩ => exact (by omega : k + (i 1).1 = k)

theorem flag_word : ∀ a b p q : BitVec 1, Scalar.select a (IntOp.andi b (~~~ IntOp.andi p q)) b = 1#1
    ↔ b = 1#1 ∧ ¬ (a = 1#1 ∧ q = 1#1 ∧ p = 1#1) := by decide

theorem ofBool_iff (p : Prop) [Decidable p] : BitVec.ofBool (decide p) = 1#1 ↔ p := by
  by_cases h : p <;> simp [h]

theorem sgt_iff (i j : ℕ) (hi : i < 6000) (hj : j < 6000) :
    IntOp.cmpi .sgt (BitVec.ofNat 32 i) (BitVec.ofNat 32 j) = 1#1 ↔ j < i := by
  show BitVec.ofBool (BitVec.slt _ _) = _ ↔ _
  unfold BitVec.slt
  rw [toInt_ofNat_of_lt (k := i) (by omega), toInt_ofNat_of_lt (k := j) (by omega), ofBool_iff]
  omega

/-- The reference's flags: box `t` after `k` trips. -/
def flag (sup : ℕ → ℕ → Prop) : ℕ → ℕ → Prop
  | 0, _ => True
  | k + 1, t => flag sup k t ∧ ¬ (flag sup k k ∧ k < t ∧ sup k t)

/-- After as many trips as there are boxes the flags say which boxes are kept. -/
theorem flag_kept (sup : ℕ → ℕ → Prop) (n t : ℕ) (h : t ≤ n) : flag sup n t ↔ kept sup t :=
  flags_last sup (flag sup) (fun _ => trivial) (fun _ _ => Iff.rfl) n t h

/-- The carried buffers before trip `k`. -/
structure Inv (v : FVec Ideal S4x6000x4 .f32) (k : ℕ) (V : Valuation τ sig (Elt Ideal)) : Prop where
  c0 : ∀ b t, (V (Proc.devRef .tc main_v220_0) : FVec Ideal S4x6000 .f32) (ix2 b t) = v (ix3 b t 0)
  c1 : ∀ b t, (V (Proc.devRef .tc main_v220_1) : FVec Ideal S4x6000 .f32) (ix2 b t) = v (ix3 b t 1)
  c2 : ∀ b t, (V (Proc.devRef .tc main_v220_2) : FVec Ideal S4x6000 .f32) (ix2 b t) = v (ix3 b t 2)
  c3 : ∀ b t, (V (Proc.devRef .tc main_v220_3) : FVec Ideal S4x6000 .f32) (ix2 b t) = v (ix3 b t 3)
  c4 : ∀ b t, (V (Proc.devRef .tc main_v220_4) : FVec Ideal S4x6000 .f32) (ix2 b t)
    = (v (ix3 b t 2) - v (ix3 b t 0) + 1) * (v (ix3 b t 3) - v (ix3 b t 1) + 1)
  c5 : ∀ t : Fin 6000, (V (Proc.devRef .tc main_v220_5) : IVec S6000 32) (ix1 t) = BitVec.ofNat 32 t.1
  c7 : (V (Proc.devRef .tc main_v220_7) : IVec S_ 32) ix0 = BitVec.ofNat 32 k
  c8 : ∀ b t, (V (Proc.devRef .tc main_v220_8) : IVec S4x6000 1) (ix2 b t) = 1#1 ↔ flag (supX (boxOf v b)) k t.1

theorem entry_inv (W : Valuation τ sig (Elt Ideal)) : Inv (W (Proc.devRef .tc main_v202)) 0 (after hostOps0_34 W) := by
  constructor
  · intro b t; after_results; simp only [id_eq]; pointwise
  · intro b t; after_results; simp only [id_eq]; pointwise
  · intro b t; after_results; simp only [id_eq]; pointwise
  · intro b t; after_results; simp only [id_eq]; pointwise
  · intro b t; after_results; simp only [id_eq]; pointwise
  · intro t; after_results; simp only [id_eq]; pointwise
  · after_results; simp only [id_eq]; pointwise
  · intro b t
    refine iff_of_true ?_ trivial
    after_results; simp only [id_eq]; pointwise

theorem boxOf_in (v : FVec Ideal S4x6000x4 .f32) (b : Fin 4) (t : Fin 6000) (c : Fin 8) (c' : Fin 4) (h : c.1 = c'.1) :
    boxOf v b t.1 c = v (ix3 b t c') := by
  have hc : t.1 < 6000 ∧ c.1 < 4 := ⟨t.2, by omega⟩
  refine (dif_pos hc).trans (congrArg (fun q => v (ix3 b t q)) (Fin.ext h))

/-- The overlap of two of the boxes, in the boxes' columns. -/
theorem iou_boxes (v : FVec Ideal S4x6000x4 .f32) (b : Fin 4) (k t : Fin 6000) :
    iou (boxOf v b k.1) (boxOf v b t.1) = Ideal.div
      (max 0 (min (v (ix3 b k 2)) (v (ix3 b t 2)) - max (v (ix3 b k 0)) (v (ix3 b t 0)) + 1)
        * max 0 (min (v (ix3 b k 3)) (v (ix3 b t 3)) - max (v (ix3 b k 1)) (v (ix3 b t 1)) + 1))
      ((v (ix3 b k 2) - v (ix3 b k 0) + 1) * (v (ix3 b k 3) - v (ix3 b k 1) + 1)
        + (v (ix3 b t 2) - v (ix3 b t 0) + 1) * (v (ix3 b t 3) - v (ix3 b t 1) + 1)
        - max 0 (min (v (ix3 b k 2)) (v (ix3 b t 2)) - max (v (ix3 b k 0)) (v (ix3 b t 0)) + 1)
        * max 0 (min (v (ix3 b k 3)) (v (ix3 b t 3)) - max (v (ix3 b k 1)) (v (ix3 b t 1)) + 1)) := by
  unfold iou
  rw [boxOf_in v b k 0 0 rfl, boxOf_in v b k 1 1 rfl, boxOf_in v b k 2 2 rfl, boxOf_in v b k 3 3 rfl,
    boxOf_in v b t 0 0 rfl, boxOf_in v b t 1 1 rfl, boxOf_in v b t 2 2 rfl, boxOf_in v b t 3 3 rfl]

/-- One trip's flags. -/
theorem step_flags (v : FVec Ideal S4x6000x4 .f32) (k : ℕ) (hk : k < 6000) (V : Valuation τ sig (Elt Ideal)) (hV : Inv v k V)
    (b : Fin 4) (t : Fin 6000) :
    (step_main_v220_8 V : IVec S4x6000 1) (ix2 b t) = 1#1 ↔ flag (supX (boxOf v b)) (k + 1) t.1 := by
  unfold step_main_v220_8 res_main_while0b_v274
  have hs := start_eq (V (Proc.devRef .tc main_v220_7)) k hk hV.c7
  generalize hst : (fun k => (((![constantI S_ 32 0#32, select (cmpi .slt (V (Proc.devRef .tc main_v220_7)) (constantI S_ 32 0#32)) (addi (id (V (Proc.devRef .tc main_v220_7))) (constantI S_ 32 6000#32)) (V (Proc.devRef .tc main_v220_7))] : Fin 2 → (⟨S_, .i32⟩ : BufTy).Contents (Elt Ideal))) k (Shape.Idx.first h_S_)).toInt) = start
  have hs' : ∀ a, start a = ((![0, k] : Fin 2 → ℕ) a : ℤ) := fun a => by rw [← hst]; exact hs a
  clear hst hs
  have e0 : Host.dynamicSlice S4x1 (V (Proc.devRef .tc main_v220_0)) start sliceFits_S4x6000_S4x1 = _ :=
    slice_eq (V (Proc.devRef .tc main_v220_0)) start k hk hs'
  have e1 : Host.dynamicSlice S4x1 (V (Proc.devRef .tc main_v220_1)) start sliceFits_S4x6000_S4x1 = _ :=
    slice_eq (V (Proc.devRef .tc main_v220_1)) start k hk hs'
  have e2 : Host.dynamicSlice S4x1 (V (Proc.devRef .tc main_v220_2)) start sliceFits_S4x6000_S4x1 = _ :=
    slice_eq (V (Proc.devRef .tc main_v220_2)) start k hk hs'
  have e3 : Host.dynamicSlice S4x1 (V (Proc.devRef .tc main_v220_3)) start sliceFits_S4x6000_S4x1 = _ :=
    slice_eq (V (Proc.devRef .tc main_v220_3)) start k hk hs'
  have e4 : Host.dynamicSlice S4x1 (V (Proc.devRef .tc main_v220_4)) start sliceFits_S4x6000_S4x1 = _ :=
    slice_eq (V (Proc.devRef .tc main_v220_4)) start k hk hs'
  have e8 : Host.dynamicSlice S4x1 (V (Proc.devRef .tc main_v220_8)) start sliceFits_S4x6000_S4x1 = _ :=
    slice_eq (V (Proc.devRef .tc main_v220_8)) start k hk hs'
  rw [e0, e1, e2, e3, e4, e8]
  simp only [id_eq]
  pointwise
  rw [hV.c0, hV.c1, hV.c2, hV.c3, hV.c4, hV.c0, hV.c1, hV.c2, hV.c3, hV.c4, hV.c5, hV.c7, flag_word, hV.c8, hV.c8]
  rw [sgt_iff t.1 k t.2 hk, ofBool_iff, ← iou_boxes v b ⟨k, hk⟩ t]
  exact Iff.rfl

/-- One trip. -/
theorem step_inv (v : FVec Ideal S4x6000x4 .f32) (k : ℕ) (hk : k < 6000) (V : Valuation τ sig (Elt Ideal)) (hV : Inv v k V) :
    Inv v (k + 1) (STEP V) := by
  constructor
  · intro b t; rw [STEP_main_v220_0]; exact hV.c0 b t
  · intro b t; rw [STEP_main_v220_1]; exact hV.c1 b t
  · intro b t; rw [STEP_main_v220_2]; exact hV.c2 b t
  · intro b t; rw [STEP_main_v220_3]; exact hV.c3 b t
  · intro b t; rw [STEP_main_v220_4]; exact hV.c4 b t
  · intro t; rw [STEP_main_v220_5]; exact hV.c5 t
  · rw [STEP_main_v220_7]
    have h : (step_main_v220_7 V : IVec S_ 32) ix0 = IntOp.addi ((V (Proc.devRef .tc main_v220_7) : IVec S_ 32) ix0) 1#32 := rfl
    rw [h, hV.c7]
    exact (BitVec.ofNat_add k 1).symm
  · intro b t; rw [STEP_main_v220_8]; exact step_flags v k hk V hV b t

/-- The loop's state before trip `k`. -/
theorem iter_inv (v : FVec Ideal S4x6000x4 .f32) (V : Valuation τ sig (Elt Ideal)) (hV : Inv v 0 V) :
    ∀ k, k ≤ 6000 → Inv v k (STEP^[k] V)
  | 0, _ => hV
  | k + 1, h => by
    rw [Function.iterate_succ_apply']
    exact step_inv v k (by omega) _ (iter_inv v V hV k (by omega))

/-- When the loop ends, the flags say which boxes are kept. -/
theorem end_flags (m : (ℓ : Loc nD τ sig) → Buf (Elt Ideal) ℓ) (c : Dev nD) (W : Valuation τ sig (Elt Ideal))
    (hW : entryContents preI m c = after hostOps0_34 W) (b : Fin 4) (t : Fin 6000) :
    (after condOps (atK m 6000 c) (Proc.devRef .tc main_v220_8) : IVec S4x6000 1) (ix2 b t) = 1#1
      ↔ kept (supX (boxOf (W (Proc.devRef .tc main_v202)) b)) t.1 := by
  have e : after condOps (atK m 6000 c) (Proc.devRef .tc main_v220_8) = STEP^[6000] (entryContents preI m c) (Proc.devRef .tc main_v220_8) :=
    (after_of_writes_sub condOps _ condOps_writes (by decide +kernel)).trans (atK_agree m c 6000 main_v220_8 (by decide))
  rw [e, hW]
  refine ((iter_inv _ _ (entry_inv W) 6000 le_rfl).c8 b t).trans (flag_kept _ 6000 t.1 ?_)
  exact t.2.le

end Cert.ReferenceIdeal.Keep

end
-- ==== Proof.Order.lean ====
/-
  A stable sort of kept boxes before the rest: position `r` holds the kept box of rank `r` while there is one.
-/
module

public import proofs.«01_k».proof.Proof.Nms
public import Idealize.ShloMosaic.Lib.SortFacts

@[expose] public section

noncomputable section

namespace Cert.Nms

open scoped Classical
open Idealize.ShloMosaic

section split
variable {ι : Type} (p : ι → Bool)

/-- An element of the first kind goes to the front. -/
theorem insert_first (a : ι) (h : p a = true) : ∀ l, insertBefore (fun x y => p x && !p y) a l = a :: l
  | [] => rfl
  | b :: l => by
    unfold insertBefore
    rw [if_neg (by simp [h])]

/-- An element of the other kind goes between the two kinds. -/
theorem insert_other (a : ι) (h : p a = false) (G : List ι) (hG : ∀ b ∈ G, p b = false) :
    ∀ F : List ι, (∀ b ∈ F, p b = true) → insertBefore (fun x y => p x && !p y) a (F ++ G) = F ++ a :: G
  | [], _ => by
    cases G with
    | nil => rfl
    | cons b G =>
      show insertBefore _ a (b :: G) = a :: b :: G
      unfold insertBefore
      rw [if_neg (by simp [hG b (List.mem_cons_self ..)])]
  | b :: F, hF => by
    show insertBefore _ a (b :: (F ++ G)) = b :: (F ++ a :: G)
    unfold insertBefore
    rw [if_pos (by simp [hF b (List.mem_cons_self ..), h]),
      insert_other a h G hG F fun x hx => hF x (List.mem_cons_of_mem _ hx)]

/-- The stable sort of two kinds: each kind in its order. -/
theorem stableSort_split : ∀ l : List ι, stableSort (fun x y => p x && !p y) l = l.filter p ++ l.filter (fun x => !p x)
  | [] => rfl
  | a :: l => by
    unfold stableSort
    rw [stableSort_split l]
    cases h : p a
    · rw [insert_other p a h _ (fun b hb => by simpa using (List.mem_filter.1 hb).2) _ (fun b hb => (List.mem_filter.1 hb).2)]
      simp [h]
    · rw [insert_first p a h]
      simp [h]

end split

variable (sup : ℕ → ℕ → Prop)

theorem length_kept : ∀ n, ((List.range n).filter fun t => decide (kept sup t)).length = rank sup n
  | 0 => by simp [rank_zero]
  | n + 1 => by
    rw [List.range_succ, List.filter_append, List.length_append, length_kept n, rank_succ]
    by_cases h : kept sup n <;> simp [h]

/-- Element `r` of the kept boxes in order has rank `r`. -/
theorem rank_of_get (r t : ℕ) : ∀ n, ((List.range n).filter fun t => decide (kept sup t))[r]? = some t → rank sup t = r
  | 0, h => by simp at h
  | n + 1, h => by
    rw [List.range_succ, List.filter_append] at h
    by_cases hr : r < ((List.range n).filter fun t => decide (kept sup t)).length
    · rw [List.getElem?_append_left hr] at h
      exact rank_of_get r t n h
    · rw [List.getElem?_append_right (not_lt.1 hr)] at h
      by_cases hn : kept sup n
      · simp only [List.filter_cons, hn, decide_true, if_true, List.filter_nil, List.getElem?_singleton] at h
        split at h
        · rename_i h0
          rw [length_kept] at h0 hr
          obtain rfl : n = t := by simpa using h
          omega
        · simp at h
      · simp [hn] at h

/-- What the sort of the kept boxes before the rest puts at position `r`. -/
theorem sortedFrom_kept {n : ℕ} (before : Fin n → Fin n → Bool)
    (hb : ∀ a b : Fin n, before a b = (decide (kept sup a.1) && !decide (kept sup b.1))) (r : Fin n) :
    (r.1 < rank sup n → kept sup (sortedFrom before r).1 ∧ rank sup (sortedFrom before r).1 = r.1)
      ∧ (rank sup n ≤ r.1 → ¬ kept sup (sortedFrom before r).1) := by
  have hbe : before = fun a b => (fun t : Fin n => decide (kept sup t.1)) a && !(fun t : Fin n => decide (kept sup t.1)) b :=
    funext fun a => funext fun b => hb a b
  have hl : sortPositions n before = _ := (congrArg (fun f => stableSort f (List.finRange n)) hbe).trans
    (stableSort_split (fun t : Fin n => decide (kept sup t.1)) (List.finRange n))
  have hmap : ((List.finRange n).filter fun t => decide (kept sup t.1)).map Fin.val
      = (List.range n).filter fun t => decide (kept sup t) := by
    rw [← List.map_coe_finRange_eq_range, List.filter_map]
    rfl
  have hlen : ((List.finRange n).filter fun t : Fin n => decide (kept sup t.1)).length = rank sup n := by
    rw [← length_kept, ← hmap, List.length_map]
  have hget : (sortPositions n before)[r.1]? = some (sortedFrom before r) := by
    unfold sortedFrom
    rw [List.getElem?_eq_getElem (by rw [length_sortPositions]; exact r.2)]
    rfl
  rw [hl] at hget
  constructor
  · intro h
    rw [List.getElem?_append_left (by rw [hlen]; exact h)] at hget
    refine ⟨by simpa using (List.mem_filter.1 (List.mem_of_getElem? hget)).2, ?_⟩
    refine rank_of_get sup r.1 _ n ?_
    rw [← hmap, List.getElem?_map, hget]
    rfl
  · intro h
    rw [List.getElem?_append_right (by rw [hlen]; exact h)] at hget
    simpa using (List.mem_filter.1 (List.mem_of_getElem? hget)).2

end Cert.Nms

end
-- ==== Proof.RefTail.lean ====
/-
  The reference after its loop: the boxes sorted by their flags, the first 300 of them, and zeros where a box is not kept.
-/
module

public import proofs.«01_k».proof.Proof.RefLoop
public import proofs.«01_k».proof.Proof.Order
public import Idealize.ShloMosaic.Lib.ReduceAll

@[expose] public section

set_option maxRecDepth 16384

noncomputable section

namespace Cert.ReferenceIdeal.Keep

open Cert.ReferenceIdeal Cert.ReferenceIdeal.Gen Cert.ReferenceIdeal.Value Cert.Nms
open Cert.KernelIdeal.Body (boxOf supX nms)
open Idealize.ShloMosaic Idealize.ShloMosaic.TcCoe Idealize.ShloMosaic.StableHlo

/-! ## The two gathers -/

section gathers
variable {α : Type}

/-- One flag per batch entry and position. -/
theorem gather_flags (x : S4x6000.Idx → α) (idx : IVec S4x300x1 32) (b : Fin 4) (r : Fin 300) (t : Fin 6000)
    (h : (idx (ix3 b r 0)).toInt = (t.1 : ℤ)) :
    Host.gather gather_S4x6000_S4x300x1_S4x300_n_1_0_0_1_2_11 x idx (ix2 b r) = x (ix2 b t) := by
  have ht := t.2
  unfold Host.gather
  refine congrArg x (funext fun a => Fin.ext ?_)
  generalize hd : gather_S4x6000_S4x300x1_S4x300_n_1_0_0_1_2_11 = d
  show d.start _ idx a + d.batchCoord _ a + d.offCoord _ a = _
  have hs : d.startIndexMap = [1] := by rw [← hd]; rfl
  have hc : d.collapsedSliceDims = [1] := by rw [← hd]; rfl
  have ho : d.operandBatchingDims = [0] := by rw [← hd]; rfl
  match a with
  | ⟨0, _⟩ =>
    rw [GatherDims.start_batching _ _ _ _ (by rw [ho]; exact List.mem_singleton.mpr rfl),
      GatherDims.offCoord_eq_zero _ _ _ (fun h => ((GatherDims.mem_sKept _ _).mp h).2 (by rw [ho]; exact List.mem_singleton.mpr rfl))]
    subst hd
    simp only [Nat.zero_add, Nat.add_zero]
    unfold GatherDims.batchCoord
    exact (dif_pos (by rw [ho]; exact List.mem_singleton.mpr rfl)).trans rfl
  | ⟨1, _⟩ =>
    rw [GatherDims.batchCoord_eq_zero _ _ _ (fun h => by rw [ho] at h; simp at h),
      GatherDims.offCoord_eq_zero _ _ _ (fun h => ((GatherDims.mem_sKept _ _).mp h).1 (by rw [hc]; exact List.mem_singleton.mpr rfl))]
    subst hd
    simp only [Nat.add_zero]
    unfold GatherDims.start
    refine (dif_pos (by rw [hs]; exact List.mem_singleton.mpr rfl)).trans ?_
    refine Eq.trans (congrArg (fun q => min (BitVec.toInt (idx q)).toNat 5999) (?_ : _ = ix3 b r 0)) ?_
    · funext c
      refine Fin.ext ?_
      match c with
      | ⟨0, _⟩ => rfl
      | ⟨1, _⟩ => rfl
      | ⟨2, _⟩ => rfl
    · show min (BitVec.toInt (idx (ix3 b r 0))).toNat 5999 = t.1
      rw [h]; omega

/-- One box per batch entry and position. -/
theorem gather_boxes (x : S4x6000x4.Idx → α) (idx : IVec S4x300x1 32) (b : Fin 4) (r : Fin 300) (k : Fin 4) (t : Fin 6000)
    (h : (idx (ix3 b r 0)).toInt = (t.1 : ℤ)) :
    Host.gather gather_S4x6000x4_S4x300x1_S4x300x4_2_1_0_0_1_2_114 x idx (ix3 b r k) = x (ix3 b t k) := by
  have ht := t.2
  unfold Host.gather
  refine congrArg x (funext fun a => Fin.ext ?_)
  generalize hd : gather_S4x6000x4_S4x300x1_S4x300x4_2_1_0_0_1_2_114 = d
  show d.start _ idx a + d.batchCoord _ a + d.offCoord _ a = _
  have hs : d.startIndexMap = [1] := by rw [← hd]; rfl
  have hc : d.collapsedSliceDims = [1] := by rw [← hd]; rfl
  have ho : d.operandBatchingDims = [0] := by rw [← hd]; rfl
  match a with
  | ⟨0, _⟩ =>
    rw [GatherDims.start_batching _ _ _ _ (by rw [ho]; exact List.mem_singleton.mpr rfl),
      GatherDims.offCoord_eq_zero _ _ _ (fun h => ((GatherDims.mem_sKept _ _).mp h).2 (by rw [ho]; exact List.mem_singleton.mpr rfl))]
    subst hd
    simp only [Nat.zero_add, Nat.add_zero]
    unfold GatherDims.batchCoord
    exact (dif_pos (by rw [ho]; exact List.mem_singleton.mpr rfl)).trans rfl
  | ⟨1, _⟩ =>
    rw [GatherDims.batchCoord_eq_zero _ _ _ (fun h => by rw [ho] at h; simp at h),
      GatherDims.offCoord_eq_zero _ _ _ (fun h => ((GatherDims.mem_sKept _ _).mp h).1 (by rw [hc]; exact List.mem_singleton.mpr rfl))]
    subst hd
    simp only [Nat.add_zero]
    unfold GatherDims.start
    refine (dif_pos (by rw [hs]; exact List.mem_singleton.mpr rfl)).trans ?_
    refine Eq.trans (congrArg (fun q => min (BitVec.toInt (idx q)).toNat 5999) (?_ : _ = ix3 b r 0)) ?_
    · funext c
      refine Fin.ext ?_
      match c with
      | ⟨0, _⟩ => rfl
      | ⟨1, _⟩ => rfl
      | ⟨2, _⟩ => rfl
    · show min (BitVec.toInt (idx (ix3 b r 0))).toNat 5999 = t.1
      rw [h]; omega
  | ⟨2, _⟩ =>
    rw [GatherDims.batchCoord_eq_zero _ _ _ (fun h => by rw [ho] at h; simp at h)]
    have e1 : d.start (ix3 b r k) idx ⟨2, by decide⟩ = 0 := by
      unfold GatherDims.start
      exact dif_neg (by rw [hs]; decide)
    have e2 : d.offCoord (ix3 b r k) ⟨2, by decide⟩ = k.1 := by
      subst hd
      unfold GatherDims.offCoord
      exact (dif_pos (by decide)).trans rfl
    exact (congrArg₂ (fun p q => p + 0 + q) e1 e2).trans (by simp)

end gathers

/-! ## The sort -/

/-- The positions a sort of a batch entry's flags reads. -/
def order (x : IVec S4x6000 1) (b : Fin 4) (j : Fin 6000) : Fin 6000 :=
  sortedFrom (fun k k' => IntOp.cmpi .ult (x (ix2 b k)) (x (ix2 b k')) == 1#1) j

theorem along_ix2 (b : Fin 4) (j k : Fin 6000) : Shape.Idx.along (s := S4x6000) (ix2 b j) (1 : Fin 2) k = ix2 b k := by
  funext a
  match a with
  | ⟨0, _⟩ => rfl
  | ⟨1, _⟩ => rfl

theorem sort_gen (x : IVec S4x6000 1) (y : IVec S4x6000 32) (b : Fin 4) (j : Fin 6000) :
    (Host.sort2 S4x6000 1 comparator_i1_i32_d1 x y).2 (ix2 b j) = y (ix2 b (order x b j)) := by
  have hf : (fun k k' : Fin 6000 => IntOp.cmpi .ult (x (Shape.Idx.along (s := S4x6000) (ix2 b j) (1 : Fin 2) k))
      (x (Shape.Idx.along (s := S4x6000) (ix2 b j) (1 : Fin 2) k')) == 1#1)
      = fun k k' => IntOp.cmpi .ult (x (ix2 b k)) (x (ix2 b k')) == 1#1 :=
    funext fun k => funext fun k' => by rw [along_ix2, along_ix2]
  rw [← along_ix2 b j (order x b j)]
  unfold order
  rw [← hf]
  unfold Host.sort2
  rw [dif_pos (show 1 < S4x6000.rank by decide)]
  rfl

theorem sort_at (x : IVec S4x6000 1) (b : Fin 4) (j : Fin 6000) :
    (Host.sort2 S4x6000 1 comparator_i1_i32_d1 x (iotaInDim S4x6000 32 1)).2 (ix2 b j) = BitVec.ofNat 32 (order x b j).1 :=
  sort_gen x _ b j

/-- The first 300 positions. -/
theorem first_at (W : Valuation τ sig (Elt Ideal)) (b : Fin 4) (r : Fin 300) :
    (after hostOps0_37 (after hostOps0_36 (after hostOps0_35 W)) (Proc.devRef .tc main_v223) : IVec S4x300 32) (ix2 b r)
      = BitVec.ofNat 32 (order (noti (W (Proc.devRef .tc main_v220_8) : IVec S4x6000 1)) b ⟨r.1, by omega⟩).1 := by
  refine Eq.trans ?_ (sort_at _ b ⟨r.1, by omega⟩)
  after_results
  simp only [id_eq, TRef.ofBuf_toBuf]
  pointwise
  rfl

/-! ## Reading at positions that are in range -/

/-- Positions, a negative one read from the end. -/
def wrap {s : Shape} (w z n : IVec s 32) : IVec s 32 := select (cmpi .slt w z) (addi w n) w

theorem wrap_eq {s : Shape} (w z n : IVec s 32) (hz : ∀ i, z i = 0#32) (hw : ∀ i, 0 ≤ (w i).toInt) : wrap w z n = w := by
  funext i
  show Scalar.select (IntOp.cmpi .slt (w i) (z i)) _ (w i) = w i
  have h : IntOp.cmpi .slt (w i) (z i) = 0#1 := by
    rw [hz]
    show BitVec.ofBool (BitVec.slt _ _) = _
    unfold BitVec.slt
    rw [decide_eq_false (not_lt.2 (by simpa using hw i))]
    rfl
  rw [h]
  rfl

/-- Which positions are in range. -/
def inRange (w : IVec S4x300x1 32) : IVec S4x300 1 :=
  Host.reduce IntOp.andi
    (andi (cmpi .sge w (broadcastInDim S4x300x1 ![] bcast_S_S4x300x1 (constantI S_ 32 0#32)))
      (cmpi .sle w (broadcastInDim S4x300x1 ![0, 1, 2] bcast_S1x1x1_S4x300x1_0_1_2
        (broadcastInDim S1x1x1 ![2] bcast_S1_S1x1x1_2 (constantI S1 32 5999#32)))))
    (constantI S_ 1 1#1) reducesTo_S4x300x1_S4x300_d2 h_S_

theorem inRange_eq (w : IVec S4x300x1 32) (hw : ∀ i, 0 ≤ (w i).toInt ∧ (w i).toInt ≤ 5999) : inRange w = fun _ => 1#1 := by
  funext j
  refine Host.reduce_andi_one _ _ _ _ j rfl fun i => ?_
  have h1 : IntOp.cmpi .sge (w i) 0#32 = 1#1 := by
    show BitVec.ofBool (BitVec.sle _ _) = _
    unfold BitVec.sle
    rw [decide_eq_true (by simpa using (hw i).1)]
    rfl
  have h2 : IntOp.cmpi .sle (w i) 5999#32 = 1#1 := by
    show BitVec.ofBool (BitVec.sle _ _) = _
    unfold BitVec.sle
    rw [decide_eq_true (show (w i).toInt ≤ (5999#32).toInt from (hw i).2)]
    rfl
  show IntOp.andi (IntOp.cmpi .sge (w i) 0#32) (IntOp.cmpi .sle (w i) 5999#32) = 1#1
  rw [h1, h2]
  rfl

theorem pos_toInt (t : Fin 6000) : (BitVec.ofNat 32 t.1).toInt = (t.1 : ℤ) := toInt_ofNat_of_lt (by omega)

theorem pos_range (t : Fin 6000) : 0 ≤ (BitVec.ofNat 32 t.1).toInt ∧ (BitVec.ofNat 32 t.1).toInt ≤ 5999 := by
  rw [pos_toInt]; omega

/-- The flags the reference reads at the positions. -/
def flagsOf (x : IVec S4x6000 1) (w : IVec S4x300 32) : IVec S4x300 1 :=
  select (inRange (shapeCast S4x300x1 (wrap w (broadcastInDim S4x300 ![] bcast_S_S4x300 (constantI S_ 32 0#32))
      (broadcastInDim S4x300 ![] bcast_S_S4x300 (constantI S_ 32 6000#32))) shapeCasts_S4x300_S4x300x1))
    (Host.gather gather_S4x6000_S4x300x1_S4x300_n_1_0_0_1_2_11 x
      (shapeCast S4x300x1 (wrap w (broadcastInDim S4x300 ![] bcast_S_S4x300 (constantI S_ 32 0#32))
        (broadcastInDim S4x300 ![] bcast_S_S4x300 (constantI S_ 32 6000#32))) shapeCasts_S4x300_S4x300x1))
    (broadcastInDim S4x300 ![] bcast_S_S4x300 (constantI S_ 1 1#1))

theorem flagsOf_at (x : IVec S4x6000 1) (w : IVec S4x300 32) (t : Fin 4 → Fin 300 → Fin 6000)
    (h : ∀ b r, w (ix2 b r) = BitVec.ofNat 32 (t b r).1) (b : Fin 4) (r : Fin 300) :
    flagsOf x w (ix2 b r) = x (ix2 b (t b r)) := by
  have h' : ∀ i : S4x300.Idx, w i = BitVec.ofNat 32 (t (i 0) (i 1)).1 := fun i => by
    rw [eq_ix2 i]; exact h _ _
  have hw : ∀ i : S4x300.Idx, 0 ≤ (w i).toInt ∧ (w i).toInt ≤ 5999 := fun i => by rw [h' i]; exact pos_range _
  unfold flagsOf
  have hwr : ∀ z n, (∀ i, z i = 0#32) → wrap w z n = w := fun z n hz => wrap_eq w z n hz fun i => (hw i).1
  rw [hwr]
  swap
  · intro i; rfl
  rw [inRange_eq]
  swap
  · intro i; exact hw _
  show Host.gather _ _ _ (ix2 b r) = _
  refine gather_flags _ _ b r (t b r) ?_
  pointwise
  rw [h]
  exact pos_toInt _

/-- The boxes the reference reads at the positions. -/
def boxesOf (x : FVec Ideal S4x6000x4 .f32) (w : IVec S4x300x1 32) : FVec Ideal S4x300x4 .f32 :=
  select (broadcastInDim S4x300x4 ![0, 1] bcast_S4x300_S4x300x4_0_1 (inRange (wrap w
      (broadcastInDim S4x300x1 ![] bcast_S_S4x300x1 (constantI S_ 32 0#32)) (broadcastInDim S4x300x1 ![] bcast_S_S4x300x1 (constantI S_ 32 6000#32)))))
    (Host.gather gather_S4x6000x4_S4x300x1_S4x300x4_2_1_0_0_1_2_114 x (wrap w
      (broadcastInDim S4x300x1 ![] bcast_S_S4x300x1 (constantI S_ 32 0#32)) (broadcastInDim S4x300x1 ![] bcast_S_S4x300x1 (constantI S_ 32 6000#32))))
    (broadcastInDim S4x300x4 ![] bcast_S_S4x300x4 (constant (F := Ideal) S_ .f32 0x7FC00000#32))

theorem boxesOf_at (x : FVec Ideal S4x6000x4 .f32) (w : IVec S4x300x1 32) (t : Fin 4 → Fin 300 → Fin 6000)
    (h : ∀ b r, w (ix3 b r 0) = BitVec.ofNat 32 (t b r).1) (b : Fin 4) (r : Fin 300) (k : Fin 4) :
    boxesOf x w (ix3 b r k) = x (ix3 b (t b r) k) := by
  have h' : ∀ i : S4x300x1.Idx, w i = BitVec.ofNat 32 (t (i 0) (i 1)).1 := fun i => by
    rw [eq_ix3 i]
    exact (congrArg (fun q => w (ix3 (i 0) (i 1) q)) (Subsingleton.elim (α := Fin 1) _ _)).trans (h _ _)
  have hw : ∀ i : S4x300x1.Idx, 0 ≤ (w i).toInt ∧ (w i).toInt ≤ 5999 := fun i => by rw [h' i]; exact pos_range _
  unfold boxesOf
  have hwr : ∀ z n, (∀ i, z i = 0#32) → wrap w z n = w := fun z n hz => wrap_eq w z n hz fun i => (hw i).1
  rw [hwr]
  swap
  · intro i; rfl
  rw [inRange_eq w hw]
  show Host.gather _ _ _ (ix3 b r k) = _
  refine gather_boxes _ _ b r k (t b r) ?_
  rw [h]
  exact pos_toInt _

theorem flags_res (W : Valuation τ sig (Elt Ideal)) : (after hostOps0_38 W (Proc.devRef .tc main_v224) : IVec S4x300 1)
    = flagsOf (W (Proc.devRef .tc main_v220_8)) (W (Proc.devRef .tc main_v223)) := by
  after_results
  simp only [id_eq, TRef.ofBuf_toBuf]
  rfl

theorem boxes_res (W : Valuation τ sig (Elt Ideal)) : (after hostOps0_40 W (Proc.devRef .tc main_v227) : FVec Ideal S4x300x4 .f32)
    = boxesOf (W (Proc.devRef .tc main_v202)) (W (Proc.devRef .tc main_v226)) := by
  after_results
  simp only [id_eq, TRef.ofBuf_toBuf]
  rfl

/-- The boxes times their flags, behind the batch number. -/
theorem last_at (W : Valuation τ sig (Elt Ideal)) (b : Fin 4) (r : Fin 300) (k : Fin 5) :
    (after hostOps0_41 W (Proc.devRef .tc main_v234) : FVec Ideal S4x300x5 .f32) (ix3 b r k)
      = if k.1 < 1 then FloatOps.sitofp (F := Ideal) .f32 (BitVec.ofNat 32 b.1)
        else FloatOps.mulf (F := Ideal) ((W (Proc.devRef .tc main_v227) : FVec Ideal S4x300x4 .f32) (ix3 b r ⟨k.1 - 1, by omega⟩))
          ((W (Proc.devRef .tc main_v225) : FVec Ideal S4x300 .f32) (ix2 b r)) := by
  after_results
  pointwise
  rfl

/-! ## The result -/

theorem key_word : ∀ p q : BitVec 1, (IntOp.cmpi .ult (~~~ p) (~~~ q) == 1#1) = (decide (p = 1#1) && !decide (q = 1#1)) := by decide

/-- The box at row `r`: the kept box of rank `r`, or one that is not kept. -/
theorem order_kept (f : IVec S4x6000 1) (sup : ℕ → ℕ → Prop) (b : Fin 4) (hf : ∀ t : Fin 6000, f (ix2 b t) = 1#1 ↔ kept sup t.1) (r : Fin 6000) :
    (r.1 < rank sup 6000 → kept sup (order (noti f) b r).1 ∧ rank sup (order (noti f) b r).1 = r.1)
      ∧ (rank sup 6000 ≤ r.1 → ¬ kept sup (order (noti f) b r).1) := by
  refine sortedFrom_kept sup _ (fun k k' => ?_) r
  refine (key_word (f (ix2 b k)) (f (ix2 b k'))).trans ?_
  congr 1
  · exact decide_eq_decide.2 (hf k)
  · exact congrArg (!·) (decide_eq_decide.2 (hf k'))

/-- A box times its flag. -/
theorem flag_mul (x : EReal) (p : BitVec 1) : FloatOps.mulf (F := Ideal) (φ := .f32) x (FloatOps.uitofp (F := Ideal) .f32 p) = if p = 1#1 then x else 0 := by
  have h : p = 0#1 ∨ p = 1#1 := by revert p; decide
  rcases h with rfl | rfl
  · rw [if_neg (by decide)]
    show x * (((0 : ℕ) : ℝ) : EReal) = 0
    simp
  · rw [if_pos rfl]
    show x * (((1 : ℕ) : ℝ) : EReal) = x
    simp

/-- An entry of the result, from the box at its row and that box's flag. -/
theorem row_value (v : FVec Ideal S4x6000x4 .f32) (f : IVec S4x6000 1)
    (hf : ∀ (b : Fin 4) (t : Fin 6000), f (ix2 b t) = 1#1 ↔ kept (supX (boxOf v b)) t.1) (b : Fin 4) (r : Fin 300) (k : Fin 5) :
    (if k.1 < 1 then FloatOps.sitofp (F := Ideal) .f32 (BitVec.ofNat 32 b.1)
      else FloatOps.mulf (F := Ideal) (φ := .f32) (v (ix3 b (order (noti f) b ⟨r.1, by omega⟩) ⟨k.1 - 1, by omega⟩))
        (FloatOps.uitofp (F := Ideal) .f32 (f (ix2 b (order (noti f) b ⟨r.1, by omega⟩)))))
      = nms v (ix3 b r k) := by
  unfold nms
  refine if_congr Iff.rfl rfl ?_
  rw [flag_mul]
  show _ = rows (supX (boxOf v b)) (fun t => boxOf v b t ⟨k.1 - 1, _⟩) 6000 r.1
  obtain ⟨ha, hb⟩ := order_kept f (supX (boxOf v b)) b (hf b) ⟨r.1, by omega⟩
  by_cases hr : r.1 < rank (supX (boxOf v b)) 6000
  · obtain ⟨hk, hrk⟩ := ha hr
    rw [if_pos ((hf _ _).2 hk), rows_of_kept _ _ (Fin.isLt _) hk hrk]
    exact (boxOf_in v b _ _ _ rfl).symm
  · rw [if_neg (fun h => hb (not_lt.1 hr) ((hf _ _).1 h)), rows_of_le _ _ (not_lt.1 hr)]

/-- The flags as numbers. -/
theorem valid_res (W : Valuation τ sig (Elt Ideal)) :
    (after hostOps0_40 (after hostOps0_39 W) (Proc.devRef .tc main_v225) : FVec Ideal S4x300 .f32)
      = uitofp (F := Ideal) (s := S4x300) .f32 (W (Proc.devRef .tc main_v224) : IVec S4x300 1) := by
  after_results

/-- After the loop the reference computes the suppression of the sorted boxes. -/
theorem tail_value (v : FVec Ideal S4x6000x4 .f32) (W : Valuation τ sig (Elt Ideal)) (hv : W (Proc.devRef .tc main_v202) = v)
    (hf : ∀ (b : Fin 4) (t : Fin 6000), (W (Proc.devRef .tc main_v220_8) : IVec S4x6000 1) (ix2 b t) = 1#1
      ↔ kept (supX (boxOf v b)) t.1) :
    (afterL postI W (Proc.devRef .tc main_v234) : FVec Ideal S4x300x5 .f32) = nms v := by
  have hW3 := first_at W
  have hW3f : after hostOps0_37 (after hostOps0_36 (after hostOps0_35 W)) (Proc.devRef .tc main_v220_8) = W (Proc.devRef .tc main_v220_8) := by
    after_results
  have hW3v : after hostOps0_37 (after hostOps0_36 (after hostOps0_35 W)) (Proc.devRef .tc main_v202) = v := by
    after_results; exact hv
  show (after hostOps0_41 (after hostOps0_40 (after hostOps0_39 (after hostOps0_38 (after hostOps0_37 (after hostOps0_36 (after hostOps0_35 W)))))) (Proc.devRef .tc main_v234)
    : FVec Ideal S4x300x5 .f32) = nms v
  generalize hg : after hostOps0_37 (after hostOps0_36 (after hostOps0_35 W)) = W3 at hW3 hW3f hW3v
  clear hg
  generalize hfl : (W (Proc.devRef .tc main_v220_8) : IVec S4x6000 1) = f at hf hW3 hW3f
  have h227 : ∀ b r k, (after hostOps0_40 (after hostOps0_39 (after hostOps0_38 W3)) (Proc.devRef .tc main_v227) : FVec Ideal S4x300x4 .f32) (ix3 b r k)
      = v (ix3 b (order (noti f) b ⟨r.1, by omega⟩) k) := by
    intro b r k
    have e1 : (after hostOps0_39 (after hostOps0_38 W3)) (Proc.devRef .tc main_v202) = v := by
      after_results; exact hW3v
    rw [boxes_res, e1]
    refine boxesOf_at v _ (fun b r => order (noti f) b ⟨r.1, by omega⟩) (fun b r => ?_) b r k
    refine Eq.trans ?_ (hW3 b r)
    after_results
    pointwise
  have h225 : ∀ b r, (after hostOps0_40 (after hostOps0_39 (after hostOps0_38 W3)) (Proc.devRef .tc main_v225) : FVec Ideal S4x300 .f32) (ix2 b r)
      = FloatOps.uitofp (F := Ideal) .f32 (f (ix2 b (order (noti f) b ⟨r.1, by omega⟩))) := by
    intro b r
    rw [valid_res, flags_res, hW3f]
    exact congrArg (FloatOps.uitofp (F := Ideal) .f32) (flagsOf_at f _ (fun b r => order (noti f) b ⟨r.1, by omega⟩) hW3 b r)
  have h : ∀ (b : Fin 4) (r : Fin 300) (k : Fin 5),
      (after hostOps0_41 (after hostOps0_40 (after hostOps0_39 (after hostOps0_38 W3))) (Proc.devRef .tc main_v234) : FVec Ideal S4x300x5 .f32) (ix3 b r k)
        = nms v (ix3 b r k) := by
    intro b r k
    refine (last_at _ b r k).trans ?_
    rw [h227, h225]
    exact row_value v f hf b r k
  funext i
  exact (congrArg _ (eq_ix3 i)).trans ((h (i 0) (i 1) (i 2)).trans (congrArg (nms v) (eq_ix3 i).symm))

end Cert.ReferenceIdeal.Keep

end
-- ==== Proof.Same.lean ====
/-
  The two programs' results: from equal arguments both are the suppression of the same sorted boxes.
-/
module

public import proofs.«01_k».proof.Proof.Sorted
public import proofs.«01_k».proof.Proof.RefTail
public import proofs.«01_k».proof.Proof.RefFrame

@[expose] public section

set_option maxRecDepth 16384

noncomputable section

namespace Cert.Agree

open Idealize.ShloMosaic Idealize.ShloMosaic.TcCoe Idealize.ShloMosaic.StableHlo
open Cert.KernelIdeal.Body (nms)

/-- What the reference's result is at the end. -/
theorem ref_final (m' : (ℓ : Loc Cert.ReferenceIdeal.nD Cert.ReferenceIdeal.τ Cert.ReferenceIdeal.sig) → Buf (Elt Ideal) ℓ)
    (c : Dev Cert.ReferenceIdeal.nD) :
    (finalContents Cert.ReferenceIdeal.Value.condOps Cert.ReferenceIdeal.Value.preI Cert.ReferenceIdeal.Value.bodyI Cert.ReferenceIdeal.Value.postI 6000 m' c
      (Proc.devRef .tc Cert.ReferenceIdeal.main_v234) : FVec Ideal Cert.ReferenceIdeal.S4x300x5 .f32) = nms (sorted m' c) := by
  have hW := entry_eq m' c
  generalize hw : after (List.flatten firstOps) (fun b => m' (c, b)) = W at hW
  have hs : sorted m' c = W (Proc.devRef .tc Cert.ReferenceIdeal.main_v202) := by rw [← hw]; rfl
  rw [hs]
  refine Cert.ReferenceIdeal.Keep.tail_value _ _ ?_ (Cert.ReferenceIdeal.Keep.end_flags m' c W hW)
  rw [Cert.ReferenceIdeal.Keep.cond_keeps _ (by simp), Cert.ReferenceIdeal.Keep.atTrip_keep Cert.ReferenceIdeal.Keep.cond_keeps Cert.ReferenceIdeal.Keep.body_keeps _ c _ _ (by simp), hW]
  after_results

/-- The reference's run: its result is the suppression of the boxes it sorted, its arguments are unchanged. -/
theorem ref_value (m' : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩
      (fun r => ∀ c : Dev Cert.ReferenceIdeal.nD,
        r.2.mem ((c.tc : Thread Cert.ReferenceIdeal.nD Cert.ReferenceIdeal.τ).loc Cert.ReferenceIdeal.main_v234) = nms (sorted m' c)) :=
  (θ_run _ _ _).mono (fun _ h c => (h c Cert.ReferenceIdeal.main_v234 rfl).trans (ref_final m' c)) (Cert.ReferenceIdeal.Value.run_fold m' ρ)

end Cert.Agree

end
-- ==== Proof.lean ====
/-
  The three programs' frames: each runs to an end, its arguments as they were and every counter at zero. And the
  value: from equal arguments the kernel and the reference end with equal results.
-/
module

public import proofs.«01_k».proof.Defs
public import proofs.«01_k».proof.Proof.Region
public import proofs.«01_k».proof.Proof.KernelFrame
public import proofs.«01_k».proof.Proof.RefFrame
public import proofs.«01_k».proof.Proof.Same

@[expose] public section

noncomputable section

namespace Cert.Proof

open Idealize.ShloMosaic Idealize.SL.Sem

/-- From equal arguments the kernel and the reference end with equal results, and leave their arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Body.nms (Cert.KernelIdeal.Body.sorted m c), ?_, ?_⟩
  · exact (θ_run _ _ _).mono (fun r h c => ⟨h.1 c, h.2.1 c⟩)
      (θ_run_and (Cert.KernelIdeal.Body.value m g) (Cert.KernelIdeal.Body.frame (F := Ideal) m g))
  · refine (θ_run _ _ _).mono (fun r h c => ⟨(h.1 c).trans ?_, h.2.1 c⟩)
      (θ_run_and (Cert.Agree.ref_value m' g') (Cert.ReferenceIdeal.Keep.frame (F := Ideal) m' g'))
    obtain ⟨h0, h1, h2, h3, h4⟩ := hargs c
    exact congrArg Cert.KernelIdeal.Body.nms (Cert.Agree.sorted_eq m m' c h0 h1 h2 h3 h4).symm

/-- Everything claimed of the three programs. -/
theorem claim : Cert.Claim :=
  ⟨Cert.Kernel.Gen.facts, Cert.KernelIdeal.Gen.facts, Cert.ReferenceIdeal.Gen.facts,
    fun m g _ => Cert.Kernel.Body.frame (F := Bits) m g,
    fun m g _ => Cert.KernelIdeal.Body.frame (F := Ideal) m g,
    fun m g _ => Cert.ReferenceIdeal.Keep.frame (F := Ideal) m g,
    trivial,
    algebraic⟩

end Cert.Proof

end
